-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_gates.lean ====
abbrev S32768x3072 : Shape := ⟨2, ![32768, 3072]⟩
abbrev S32768x128 : Shape := ⟨2, ![32768, 128]⟩
abbrev S16x512 : Shape := ⟨2, ![16, 512]⟩
abbrev S512 : Shape := ⟨1, ![512]⟩
abbrev S128 : Shape := ⟨1, ![128]⟩
abbrev S32768x16 : Shape := ⟨2, ![32768, 16]⟩
abbrev S_ : Shape := ⟨0, ![]⟩

class Facts : Prop where
  slices_S32768x128_S32768x16_0_0 : S32768x128.Slices ![0, 0] S32768x16
  bcast_S_S32768x16 : S_.BroadcastsInDim S32768x16 (![] : Fin 0 → Fin S32768x16.rank)
  reducesTo_S32768x16_S_d0_1 : S32768x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32768x3072 .bf16) (main_arg1 : FVec F S32768x128 .f32) (main_arg2 : FVec F S16x512 .f32) (main_arg3 : FVec F S512 .f32) (main_arg4 : FVec F S128 .f32) : IVec S_ 1 :=
  let main_v0 : FVec F S32768x16 .f32 := (extractStridedSlice S32768x16 ![0, 0] · slices_S32768x128_S32768x16_0_0) main_arg1
  let main_v1 : FVec F S32768x16 .f32 := Host.absf main_v0
  let main_cst : FVec F S_ .f32 := constant S_ .f32 0x7F800000#32
  let main_v2 : FVec F S32768x16 .f32 := broadcastInDim S32768x16 ![] bcast_S_S32768x16 main_cst
  let main_v3 : IVec S32768x16 1 := cmpf .olt main_v1 main_v2
  let main_c : IVec S_ 1 := constantI S_ 1 1#1
  let main_v4 : IVec S_ 1 := (fun x v => Host.reduce IntOp.andi x v reducesTo_S32768x16_S_d0_1 h_S_) main_v3 main_c
  let main_v5 : FVec F S16x512 .f32 := Host.absf main_arg2
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  let main_v10 : FVec F S512 .f32 := Host.absf main_arg3
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  main_v14
-- ==== Kernel.lean ====
abbrev S32768x3072 : Shape := ⟨2, ![32768, 3072]⟩
abbrev S32768x128 : Shape := ⟨2, ![32768, 128]⟩
abbrev S16x512 : Shape := ⟨2, ![16, 512]⟩
abbrev S512 : Shape := ⟨1, ![512]⟩
abbrev S128 : Shape := ⟨1, ![128]⟩
abbrev S16x8x64 : Shape := ⟨3, ![16, 8, 64]⟩
abbrev S8x16x64 : Shape := ⟨3, ![8, 16, 64]⟩
abbrev S8x1x64 : Shape := ⟨3, ![8, 1, 64]⟩
abbrev S1x128 : Shape := ⟨2, ![1, 128]⟩
abbrev S32768x1024 : Shape := ⟨2, ![32768, 1024]⟩
abbrev S1024x128 : Shape := ⟨2, ![1024, 128]⟩
abbrev S1024x256 : Shape := ⟨2, ![1024, 256]⟩
abbrev S2x16x64 : Shape := ⟨3, ![2, 16, 64]⟩
abbrev S2x1x64 : Shape := ⟨3, ![2, 1, 64]⟩
abbrev S2x128x64 : Shape := ⟨3, ![2, 128, 64]⟩
abbrev S1024x16 : Shape := ⟨2, ![1024, 16]⟩
abbrev S64x64 : Shape := ⟨2, ![64, 64]⟩
abbrev S1x16x64 : Shape := ⟨3, ![1, 16, 64]⟩
abbrev S16x64 : Shape := ⟨2, ![16, 64]⟩
abbrev S1024x64 : Shape := ⟨2, ![1024, 64]⟩
abbrev S1x1x64 : Shape := ⟨3, ![1, 1, 64]⟩
abbrev S1x64 : Shape := ⟨2, ![1, 64]⟩
abbrev S64x128 : Shape := ⟨2, ![64, 128]⟩
abbrev S128x64 : Shape := ⟨2, ![128, 64]⟩
abbrev S1x128x64 : Shape := ⟨3, ![1, 128, 64]⟩
abbrev S64 : Shape := ⟨1, ![64]⟩
abbrev S64x1 : Shape := ⟨2, ![64, 1]⟩

abbrev nBuf : Space → Nat
  | .hbm => 11
  | .vmem => 18
  | .smem => 0
  | _ => 0

abbrev bufTy : (tb : Table) → Fin (tcTables nBuf tb) → BufTy
  | .hbm, ⟨0, _⟩ => ⟨S32768x3072, .bf16⟩
  | .hbm, ⟨1, _⟩ => ⟨S32768x128, .f32⟩
  | .hbm, ⟨2, _⟩ => ⟨S16x512, .f32⟩
  | .hbm, ⟨3, _⟩ => ⟨S512, .f32⟩
  | .hbm, ⟨4, _⟩ => ⟨S128, .f32⟩
  | .hbm, ⟨5, _⟩ => ⟨S16x8x64, .f32⟩
  | .hbm, ⟨6, _⟩ => ⟨S8x16x64, .f32⟩
  | .hbm, ⟨7, _⟩ => ⟨S8x16x64, .bf16⟩
  | .hbm, ⟨8, _⟩ => ⟨S8x1x64, .f32⟩
  | .hbm, ⟨9, _⟩ => ⟨S1x128, .f32⟩
  | .hbm, ⟨10, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S2x16x64, .bf16⟩
  | .local _ .vmem, ⟨11, _⟩ => ⟨S2x16x64, .bf16⟩
  | .local _ .vmem, ⟨12, _⟩ => ⟨S2x1x64, .f32⟩
  | .local _ .vmem, ⟨13, _⟩ => ⟨S2x1x64, .f32⟩
  | .local _ .vmem, ⟨14, _⟩ => ⟨S1x128, .f32⟩
  | .local _ .vmem, ⟨15, _⟩ => ⟨S1024x256, .bf16⟩
  | .local _ .vmem, ⟨16, _⟩ => ⟨S1024x256, .bf16⟩
  | .local _ .vmem, ⟨17, _⟩ => ⟨S2x128x64, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c8_i32_0 : BitVec 32 := 8#32
  let v2 : BitVec 32 := Scalar.addi c8_i32_0 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x16x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x3072 : Shape := ⟨2, ![32768, 3072]⟩
abbrev S32768x128 : Shape := ⟨2, ![32768, 128]⟩
abbrev S16x512 : Shape := ⟨2, ![16, 512]⟩
abbrev S512 : Shape := ⟨1, ![512]⟩
abbrev S128 : Shape := ⟨1, ![128]⟩
abbrev S4x8192x3072 : Shape := ⟨3, ![4, 8192, 3072]⟩
abbrev S4x8192x512 : Shape := ⟨3, ![4, 8192, 512]⟩
abbrev S4x8192x1024 : Shape := ⟨3, ![4, 8192, 1024]⟩
abbrev S4x8192x128 : Shape := ⟨3, ![4, 8192, 128]⟩
abbrev S4x8192x16 : Shape := ⟨3, ![4, 8192, 16]⟩
abbrev S4x8192x8x64 : Shape := ⟨4, ![4, 8192, 8, 64]⟩
abbrev S_ : Shape := ⟨0, ![]⟩
abbrev S4x8192x8x128 : Shape := ⟨4, ![4, 8192, 8, 128]⟩
abbrev S1x1x512 : Shape := ⟨3, ![1, 1, 512]⟩
abbrev S4x128x64x8x64 : Shape := ⟨5, ![4, 128, 64, 8, 64]⟩
abbrev S128x4x64x8x64 : Shape := ⟨5, ![128, 4, 64, 8, 64]⟩
abbrev S64x64 : Shape := ⟨2, ![64, 64]⟩
abbrev S4x8x64x128 : Shape := ⟨4, ![4, 8, 64, 128]⟩
abbrev S4x128x64x8x128 : Shape := ⟨5, ![4, 128, 64, 8, 128]⟩
abbrev S128x4x64x8x128 : Shape := ⟨5, ![128, 4, 64, 8, 128]⟩
abbrev S1x4x64x8x64 : Shape := ⟨5, ![1, 4, 64, 8, 64]⟩
abbrev S4x64x8x64 : Shape := ⟨4, ![4, 64, 8, 64]⟩
abbrev S1x4x64x8x128 : Shape := ⟨5, ![1, 4, 64, 8, 128]⟩
abbrev S4x64x8x128 : Shape := ⟨4, ![4, 64, 8, 128]⟩
abbrev S4x8x128x64 : Shape := ⟨4, ![4, 8, 128, 64]⟩
abbrev S1x64x64x1x1 : Shape := ⟨5, ![1, 64, 64, 1, 1]⟩
abbrev S4x64x1x8x64 : Shape := ⟨5, ![4, 64, 1, 8, 64]⟩
abbrev S4x1x64x8x64 : Shape := ⟨5, ![4, 1, 64, 8, 64]⟩
abbrev S4x64x64x8x64 : Shape := ⟨5, ![4, 64, 64, 8, 64]⟩
abbrev S4x8x64x64 : Shape := ⟨4, ![4, 8, 64, 64]⟩
abbrev S4x1x8x64 : Shape := ⟨4, ![4, 1, 8, 64]⟩
abbrev S4x8x64 : Shape := ⟨3, ![4, 8, 64]⟩
abbrev S4x8x64x1 : Shape := ⟨4, ![4, 8, 64, 1]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S32768x1024 : Shape := ⟨2, ![32768, 1024]⟩

abbrev nBuf : Space → Nat
  | .hbm => 182
  | .vmem => 0
  | .smem => 0
  | _ => 0

abbrev hbmTy0_0 (i : Nat) : BufTy := match i % 128 with
  | 0 => ⟨S32768x3072, .bf16⟩
  | 1 => ⟨S32768x128, .f32⟩
  | 2 => ⟨S16x512, .f32⟩
  | 3 => ⟨S512, .f32⟩
  | 4 => ⟨S128, .f32⟩
  | 5 => ⟨S32768x3072, .f32⟩
  | 6 => ⟨S4x8192x3072, .f32⟩
  | 7 => ⟨S4x8192x512, .f32⟩
  | 8 => ⟨S4x8192x512, .f32⟩
  | 9 => ⟨S4x8192x1024, .f32⟩
  | 10 => ⟨S4x8192x1024, .f32⟩
  | 11 => ⟨S4x8192x128, .f32⟩
  | 12 => ⟨S4x8192x16, .f32⟩
  | 13 => ⟨S4x8192x8x64, .f32⟩
  | 14 => ⟨S_, .f32⟩
  | 15 => ⟨S4x8192x8x64, .f32⟩
  | 16 => ⟨S4x8192x8x64, .f32⟩
  | 17 => ⟨S4x8192x8x64, .f32⟩
  | 18 => ⟨S4x8192x8x128, .f32⟩
  | 19 => ⟨S4x8192x512, .f32⟩
  | 20 => ⟨S1x1x512, .f32⟩
  | 21 => ⟨S4x8192x512, .f32⟩
  | 22 => ⟨S4x8192x512, .f32⟩
  | 23 => ⟨S4x8192x512, .f32⟩
  | 24 => ⟨S_, .f32⟩
  | 25 => ⟨S4x8192x512, .f32⟩
  | 26 => ⟨S4x8192x512, .f32⟩
  | 27 => ⟨S4x8192x512, .f32⟩
  | 28 => ⟨S4x8192x512, .f32⟩
  | 29 => ⟨S4x8192x512, .i1⟩
  | 30 => ⟨S4x8192x512, .f32⟩
  | 31 => ⟨S4x8192x512, .f32⟩
  | 32 => ⟨S4x8192x512, .f32⟩
  | 33 => ⟨S4x8192x512, .f32⟩
  | 34 => ⟨S4x8192x512, .f32⟩
  | 35 => ⟨S4x8192x512, .f32⟩
  | 36 => ⟨S4x8192x512, .f32⟩
  | 37 => ⟨S4x8192x512, .f32⟩
  | 38 => ⟨S4x8192x512, .f32⟩
  | 39 => ⟨S_, .f32⟩
  | 40 => ⟨S4x8192x512, .f32⟩
  | 41 => ⟨S4x8192x512, .f32⟩
  | 42 => ⟨S4x8192x8x64, .f32⟩
  | 43 => ⟨S4x128x64x8x64, .f32⟩
  | 44 => ⟨S_, .f32⟩
  | 45 => ⟨S_, .f32⟩
  | 46 => ⟨S4x128x64x8x64, .f32⟩
  | 47 => ⟨S128x4x64x8x64, .f32⟩
  | 48 => ⟨S_, .i1⟩
  | 49 => ⟨S64x64, .i1⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .i1⟩
  | 57 => ⟨S64x64, .i1⟩
  | 58 => ⟨S64x64, .i1⟩
  | 59 => ⟨S_, .f32⟩
  | 60 => ⟨S4x8x64x128, .f32⟩
  | 61 => ⟨S4x128x64x8x64, .f32⟩
  | 62 => ⟨S128x4x64x8x64, .f32⟩
  | 63 => ⟨S4x128x64x8x64, .f32⟩
  | 64 => ⟨S128x4x64x8x64, .f32⟩
  | 65 => ⟨S4x128x64x8x128, .f32⟩
  | 66 => ⟨S128x4x64x8x128, .f32⟩
  | 67 => ⟨S_, .f32⟩
  | 68 => ⟨S128x4x64x8x128, .f32⟩
  | 69 => ⟨S_, .i32⟩
  | 70 => ⟨S128x4x64x8x64, .f32⟩
  | 71 => ⟨S128x4x64x8x64, .f32⟩
  | 72 => ⟨S128x4x64x8x128, .f32⟩
  | 73 => ⟨S128x4x64x8x64, .f32⟩
  | 74 => ⟨S64x64, .i1⟩
  | 75 => ⟨S_, .i32⟩
  | 76 => ⟨S4x8x64x128, .f32⟩
  | 77 => ⟨S128x4x64x8x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x4x64x8x64, .f32⟩
  | 85 => ⟨S4x64x8x64, .f32⟩
  | 86 => ⟨S_, .i32⟩
  | 87 => ⟨S_, .i32⟩
  | 88 => ⟨S_, .i32⟩
  | 89 => ⟨S_, .i32⟩
  | 90 => ⟨S1x4x64x8x64, .f32⟩
  | 91 => ⟨S4x64x8x64, .f32⟩
  | 92 => ⟨S_, .i32⟩
  | 93 => ⟨S_, .i32⟩
  | 94 => ⟨S_, .i32⟩
  | 95 => ⟨S_, .i32⟩
  | 96 => ⟨S1x4x64x8x128, .f32⟩
  | 97 => ⟨S4x64x8x128, .f32⟩
  | 98 => ⟨S_, .i32⟩
  | 99 => ⟨S_, .i32⟩
  | 100 => ⟨S_, .i32⟩
  | 101 => ⟨S_, .i32⟩
  | 102 => ⟨S1x4x64x8x64, .f32⟩
  | 103 => ⟨S4x64x8x64, .f32⟩
  | 104 => ⟨S4x64x8x64, .f32⟩
  | 105 => ⟨S4x64x8x64, .f32⟩
  | 106 => ⟨S4x8x128x64, .f32⟩
  | 107 => ⟨S4x64x8x128, .f32⟩
  | 108 => ⟨S1x64x64x1x1, .i1⟩
  | 109 => ⟨S4x64x1x8x64, .f32⟩
  | 110 => ⟨S4x1x64x8x64, .f32⟩
  | 111 => ⟨S4x64x64x8x64, .f32⟩
  | 112 => ⟨S4x64x64x8x64, .f32⟩
  | 113 => ⟨S4x64x64x8x64, .f32⟩
  | 114 => ⟨S_, .f32⟩
  | 115 => ⟨S_, .f32⟩
  | 116 => ⟨S4x64x64x8x64, .i1⟩
  | 117 => ⟨S4x64x64x8x64, .f32⟩
  | 118 => ⟨S4x64x64x8x64, .f32⟩
  | 119 => ⟨S4x1x64x8x64, .f32⟩
  | 120 => ⟨S4x64x64x8x64, .f32⟩
  | 121 => ⟨S4x64x64x8x64, .f32⟩
  | 122 => ⟨S4x64x64x8x64, .f32⟩
  | 123 => ⟨S4x8x64x64, .f32⟩
  | 124 => ⟨S4x8x128x64, .f32⟩
  | 125 => ⟨S4x64x8x128, .f32⟩
  | 126 => ⟨S4x1x8x64, .f32⟩
  | 127 => ⟨S4x8x64, .f32⟩
  | _ => ⟨S32768x3072, .bf16⟩

abbrev hbmTy0_1 (i : Nat) : BufTy := match i % 128 with
  | 0 => ⟨S4x1x8x64, .f32⟩
  | 1 => ⟨S4x64x8x64, .f32⟩
  | 2 => ⟨S4x64x8x64, .f32⟩
  | 3 => ⟨S4x64x8x64, .f32⟩
  | 4 => ⟨S4x64x8x64, .f32⟩
  | 5 => ⟨S4x8x64, .f32⟩
  | 6 => ⟨S4x8x64x1, .f32⟩
  | 7 => ⟨S4x8x64x128, .f32⟩
  | 8 => ⟨S4x8x64x128, .f32⟩
  | 9 => ⟨S4x8x64x128, .f32⟩
  | 10 => ⟨S4x8x64x128, .f32⟩
  | 11 => ⟨S4x64x8x128, .f32⟩
  | 12 => ⟨S1x4x64x8x128, .f32⟩
  | 13 => ⟨S_, .i32⟩
  | 14 => ⟨S_, .i32⟩
  | 15 => ⟨S_, .i32⟩
  | 16 => ⟨S_, .i32⟩
  | 17 => ⟨S128x4x64x8x128, .f32⟩
  | 18 => ⟨S_, .i32⟩
  | 19 => ⟨S_, .i32⟩
  | 20 => ⟨S4x128x64x8x128, .f32⟩
  | 21 => ⟨S4x8192x8x128, .f32⟩
  | 22 => ⟨S4x8192x8x128, .f32⟩
  | 23 => ⟨S_, .f32⟩
  | 24 => ⟨S4x8192x8, .f32⟩
  | 25 => ⟨S4x8192x8x1, .f32⟩
  | 26 => ⟨S_, .f32⟩
  | 27 => ⟨S4x8192x8x1, .f32⟩
  | 28 => ⟨S4x8192x8x1, .f32⟩
  | 29 => ⟨S_, .f32⟩
  | 30 => ⟨S4x8192x8x1, .f32⟩
  | 31 => ⟨S4x8192x8x1, .f32⟩
  | 32 => ⟨S4x8192x8x1, .f32⟩
  | 33 => ⟨S4x8192x8x128, .f32⟩
  | 34 => ⟨S4x8192x8x128, .f32⟩
  | 35 => ⟨S1x1x1x128, .f32⟩
  | 36 => ⟨S4x8192x8x128, .f32⟩
  | 37 => ⟨S4x8192x8x128, .f32⟩
  | 38 => ⟨S32768x1024, .bf16⟩
  | 39 => ⟨S32768x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S4x8192x1024, .f32⟩
  | 51 => ⟨S4x8192x1024, .f32⟩
  | 52 => ⟨S32768x1024, .f32⟩
  | 53 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v25 : Ref sig .tc := ⟨.hbm, 58, rfl⟩
abbrev main_cst_1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_2 : Ref sig .tc := ⟨.hbm, 67, rfl⟩
abbrev main_v33 : Ref sig .tc := ⟨.hbm, 68, rfl⟩
abbrev main_c_3 : Ref sig .tc := ⟨.hbm, 69, rfl⟩
abbrev main_v34_0 : Ref sig .tc := ⟨.hbm, 70, rfl⟩
abbrev main_v34_1 : Ref sig .tc := ⟨.hbm, 71, rfl⟩
abbrev main_v34_2 : Ref sig .tc := ⟨.hbm, 72, rfl⟩
abbrev main_v34_3 : Ref sig .tc := ⟨.hbm, 73, rfl⟩
abbrev main_v34_4 : Ref sig .tc := ⟨.hbm, 74, rfl⟩
abbrev main_v34_5 : Ref sig .tc := ⟨.hbm, 75, rfl⟩
abbrev main_v34_6 : Ref sig .tc := ⟨.hbm, 76, rfl⟩
abbrev main_v34_7 : Ref sig .tc := ⟨.hbm, 77, rfl⟩
abbrev main_while0c_c_14 : Ref sig .tc := ⟨.hbm, 78, rfl⟩
abbrev main_while0c_v58 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v58 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v0 : Ref sig .tc := ⟨.hbm, 90, rfl⟩
abbrev main_while0b_v59 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_c_2 : Ref sig .tc := ⟨.hbm, 95, rfl⟩
abbrev main_while0b_call5_v0 : Ref sig .tc := ⟨.hbm, 96, rfl⟩
abbrev main_while0b_v60 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_call6_c_2 : Ref sig .tc := ⟨.hbm, 101, rfl⟩
abbrev main_while0b_call6_v0 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_cst_14 : Ref sig .tc := ⟨.hbm, 114, rfl⟩
abbrev main_while0b_call7_v0 : Ref sig .tc := ⟨.hbm, 115, rfl⟩
abbrev main_while0b_call7_v1 : Ref sig .tc := ⟨.hbm, 116, rfl⟩
abbrev main_while0b_call7_v2 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_call8_v0 : Ref sig .tc := ⟨.hbm, 140, rfl⟩
abbrev main_while0b_call8_c : Ref sig .tc := ⟨.hbm, 141, rfl⟩
abbrev main_while0b_call8_c_0 : Ref sig .tc := ⟨.hbm, 142, rfl⟩
abbrev main_while0b_call8_c_1 : Ref sig .tc := ⟨.hbm, 143, rfl⟩
abbrev main_while0b_call8_c_2 : Ref sig .tc := ⟨.hbm, 144, rfl⟩
abbrev main_while0b_v94 : Ref sig .tc := ⟨.hbm, 145, rfl⟩
abbrev main_while0b_c_15 : Ref sig .tc := ⟨.hbm, 146, rfl⟩
abbrev main_while0b_v95 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_cst_4 : Ref sig .tc := ⟨.hbm, 151, rfl⟩
abbrev main_v38 : Ref sig .tc := ⟨.hbm, 152, rfl⟩
abbrev main_v39 : Ref sig .tc := ⟨.hbm, 153, rfl⟩
abbrev main_cst_5 : Ref sig .tc := ⟨.hbm, 154, rfl⟩
abbrev main_v40 : Ref sig .tc := ⟨.hbm, 155, rfl⟩
abbrev main_v41 : Ref sig .tc := ⟨.hbm, 156, rfl⟩
abbrev main_cst_6 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_call9_v0 : Ref sig .tc := ⟨.hbm, 170, rfl⟩
abbrev main_call9_v1 : Ref sig .tc := ⟨.hbm, 171, rfl⟩
abbrev main_call9_cst : Ref sig .tc := ⟨.hbm, 172, rfl⟩
abbrev main_call9_v2 : Ref sig .tc := ⟨.hbm, 173, rfl⟩
abbrev main_call9_v3 : Ref sig .tc := ⟨.hbm, 174, rfl⟩
abbrev main_call9_cst_0 : Ref sig .tc := ⟨.hbm, 175, rfl⟩
abbrev main_call9_v4 : Ref sig .tc := ⟨.hbm, 176, rfl⟩
abbrev main_call9_v5 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x2048 : Shape := ⟨2, ![32768, 2048]⟩
abbrev S2048x7264 : Shape := ⟨2, ![2048, 7264]⟩
abbrev S2048x3072 : Shape := ⟨2, ![2048, 3072]⟩
abbrev S32768x3072 : Shape := ⟨2, ![32768, 3072]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S2048x3072, .f32⟩
  | .hbm, ⟨3, _⟩ => ⟨S2048x3072, .bf16⟩
  | .hbm, ⟨4, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x7264 : Shape := ⟨2, ![2048, 7264]⟩
abbrev S32768x7264 : Shape := ⟨2, ![32768, 7264]⟩
abbrev S32768x3072 : Shape := ⟨2, ![32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S32768x2048, .f32⟩
  | .hbm, ⟨3, _⟩ => ⟨S32768x7264, .f32⟩
  | .hbm, ⟨4, _⟩ => ⟨S32768x3072, .f32⟩
  | .hbm, ⟨5, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S32768x2048 : Shape := ⟨2, ![32768, 2048]⟩
abbrev S2048x7264 : Shape := ⟨2, ![2048, 7264]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S2048x2048, .f32⟩
  | .hbm, ⟨3, _⟩ => ⟨S2048x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x7264 : Shape := ⟨2, ![2048, 7264]⟩
abbrev S32768x7264 : Shape := ⟨2, ![32768, 7264]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S32768x2048, .f32⟩
  | .hbm, ⟨3, _⟩ => ⟨S32768x7264, .f32⟩
  | .hbm, ⟨4, _⟩ => ⟨S32768x2048, .f32⟩
  | .hbm, ⟨5, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S32768x2048 : Shape := ⟨2, ![32768, 2048]⟩
abbrev S2048x7264 : Shape := ⟨2, ![2048, 7264]⟩
abbrev S128 : Shape := ⟨1, ![128]⟩
abbrev S2048x2048 : Shape := ⟨2, ![2048, 2048]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S128, .f32⟩
  | .hbm, ⟨3, _⟩ => ⟨S128, .f32⟩
  | .hbm, ⟨4, _⟩ => ⟨S2048x2048, .f32⟩
  | .hbm, ⟨5, _⟩ => ⟨S2048x2048, .bf16⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S8x128, .f32⟩
  | .hbm, ⟨11, _⟩ => ⟨S1024, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S2048, .f32⟩
  | .hbm, ⟨16, _⟩ => ⟨S1x2048, .f32⟩
  | .hbm, ⟨17, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x2048 : Shape := ⟨2, ![32768, 2048]⟩
abbrev S2048x7264 : Shape := ⟨2, ![2048, 7264]⟩
abbrev S128 : Shape := ⟨1, ![128]⟩
abbrev S32768x7264 : Shape := ⟨2, ![32768, 7264]⟩
abbrev S32768x1024 : Shape := ⟨2, ![32768, 1024]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S128, .f32⟩
  | .hbm, ⟨3, _⟩ => ⟨S128, .f32⟩
  | .hbm, ⟨4, _⟩ => ⟨S32768x2048, .f32⟩
  | .hbm, ⟨5, _⟩ => ⟨S32768x7264, .f32⟩
  | .hbm, ⟨6, _⟩ => ⟨S32768x1024, .f32⟩
  | .hbm, ⟨7, _⟩ => ⟨S32768x1024, .f32⟩
  | .hbm, ⟨8, _⟩ => ⟨S32768x8x128, .f32⟩
  | .hbm, ⟨9, _⟩ => ⟨S32768x8x128, .f32⟩
  | .hbm, ⟨10, _⟩ => ⟨S_, .f32⟩
  | .hbm, ⟨11, _⟩ => ⟨S32768x8, .f32⟩
  | .hbm, ⟨12, _⟩ => ⟨S32768x8x1, .f32⟩
  | .hbm, ⟨13, _⟩ => ⟨S_, .f32⟩
  | .hbm, ⟨14, _⟩ => ⟨S32768x8x1, .f32⟩
  | .hbm, ⟨15, _⟩ => ⟨S32768x8x1, .f32⟩
  | .hbm, ⟨16, _⟩ => ⟨S_, .f32⟩
  | .hbm, ⟨17, _⟩ => ⟨S32768x8x1, .f32⟩
  | .hbm, ⟨18, _⟩ => ⟨S32768x8x1, .f32⟩
  | .hbm, ⟨19, _⟩ => ⟨S32768x8x1, .f32⟩
  | .hbm, ⟨20, _⟩ => ⟨S32768x8x128, .f32⟩
  | .hbm, ⟨21, _⟩ => ⟨S32768x8x128, .f32⟩
  | .hbm, ⟨22, _⟩ => ⟨S1x1x128, .f32⟩
  | .hbm, ⟨23, _⟩ => ⟨S32768x8x128, .f32⟩
  | .hbm, ⟨24, _⟩ => ⟨S32768x8x128, .f32⟩
  | .hbm, ⟨25, _⟩ => ⟨S_, .f32⟩
  | .hbm, ⟨26, _⟩ => ⟨S32768x8x128, .f32⟩
  | .hbm, ⟨27, _⟩ => ⟨S32768x8x128, .f32⟩
  | .hbm, ⟨28, _⟩ => ⟨S32768x8x128, .f32⟩
  | .hbm, ⟨29, _⟩ => ⟨S32768x8x128, .f32⟩
  | .hbm, ⟨30, _⟩ => ⟨S_, .f32⟩
  | .hbm, ⟨31, _⟩ => ⟨S32768x8, .f32⟩
  | .hbm, ⟨32, _⟩ => ⟨S32768x8x1, .f32⟩
  | .hbm, ⟨33, _⟩ => ⟨S_, .f32⟩
  | .hbm, ⟨34, _⟩ => ⟨S32768x8x1, .f32⟩
  | .hbm, ⟨35, _⟩ => ⟨S32768x8x1, .f32⟩
  | .hbm, ⟨36, _⟩ => ⟨S_, .f32⟩
  | .hbm, ⟨37, _⟩ => ⟨S32768x8x1, .f32⟩
  | .hbm, ⟨38, _⟩ => ⟨S32768x8x1, .f32⟩
  | .hbm, ⟨39, _⟩ => ⟨S32768x8x1, .f32⟩
  | .hbm, ⟨40, _⟩ => ⟨S32768x8x128, .f32⟩
  | .hbm, ⟨41, _⟩ => ⟨S32768x8x128, .f32⟩
  | .hbm, ⟨42, _⟩ => ⟨S1x1x128, .f32⟩
  | .hbm, ⟨43, _⟩ => ⟨S32768x8x128, .f32⟩
  | .hbm, ⟨44, _⟩ => ⟨S32768x8x128, .f32⟩
  | .hbm, ⟨45, _⟩ => ⟨S32768x1024, .f32⟩
  | .hbm, ⟨46, _⟩ => ⟨S32768x1024, .f32⟩
  | .hbm, ⟨47, _⟩ => ⟨S32768x2048, .f32⟩
  | .hbm, ⟨48, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel5.lean ====
abbrev S32768x2048 : Shape := ⟨2, ![32768, 2048]⟩
abbrev S2048x4096 : Shape := ⟨2, ![2048, 4096]⟩
abbrev S4096 : Shape := ⟨1, ![4096]⟩
abbrev S1x4096 : Shape := ⟨2, ![1, 4096]⟩
abbrev S32768x4096 : Shape := ⟨2, ![32768, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S1x4096, .f32⟩
  | .hbm, ⟨5, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32768x2048 : Shape := ⟨2, ![32768, 2048]⟩
abbrev S2048x4096 : Shape := ⟨2, ![2048, 4096]⟩
abbrev S4096 : Shape := ⟨1, ![4096]⟩
abbrev S32768x4096 : Shape := ⟨2, ![32768, 4096]⟩
abbrev S1x4096 : Shape := ⟨2, ![1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .f32⟩
  | .hbm, ⟨2, _⟩ => ⟨S4096, .f32⟩
  | .hbm, ⟨3, _⟩ => ⟨S32768x2048, .f32⟩
  | .hbm, ⟨4, _⟩ => ⟨S32768x4096, .f32⟩
  | .hbm, ⟨5, _⟩ => ⟨S1x4096, .f32⟩
  | .hbm, ⟨6, _⟩ => ⟨S32768x4096, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S32768x1024 : Shape := ⟨2, ![32768, 1024]⟩
abbrev S1024x2048 : Shape := ⟨2, ![1024, 2048]⟩
abbrev S32768x4096 : Shape := ⟨2, ![32768, 4096]⟩
abbrev S32768x2048 : Shape := ⟨2, ![32768, 2048]⟩
abbrev S1024x1024 : Shape := ⟨2, ![1024, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .f32⟩
  | .hbm, ⟨3, _⟩ => ⟨S1024x2048, .f32⟩
  | .hbm, ⟨4, _⟩ => ⟨S32768x4096, .bf16⟩
  | .hbm, ⟨5, _⟩ => ⟨S1024x2048, .bf16⟩
  | .hbm, ⟨6, _⟩ => ⟨S1024x2048, .bf16⟩
  | .hbm, ⟨7, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S32768x1024 : Shape := ⟨2, ![32768, 1024]⟩
abbrev S1024x2048 : Shape := ⟨2, ![1024, 2048]⟩
abbrev S32768x4096 : Shape := ⟨2, ![32768, 4096]⟩
abbrev S32768x2048 : Shape := ⟨2, ![32768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .f32⟩
  | .hbm, ⟨3, _⟩ => ⟨S1024x2048, .f32⟩
  | .hbm, ⟨4, _⟩ => ⟨S32768x4096, .bf16⟩
  | .hbm, ⟨5, _⟩ => ⟨S32768x1024, .f32⟩
  | .hbm, ⟨6, _⟩ => ⟨S32768x2048, .f32⟩
  | .hbm, ⟨7, _⟩ => ⟨S32768x1024, .f32⟩
  | .hbm, ⟨8, _⟩ => ⟨S32768x2048, .f32⟩
  | .hbm, ⟨9, _⟩ => ⟨S32768x4096, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S32768x2048 : Shape := ⟨2, ![32768, 2048]⟩
abbrev S2048x2048 : Shape := ⟨2, ![2048, 2048]⟩
abbrev S4x8192x2048 : Shape := ⟨3, ![4, 8192, 2048]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S4x8192x2048, .f32⟩
  | .hbm, ⟨3, _⟩ => ⟨S32768x2048, .f32⟩
  | .hbm, ⟨4, _⟩ => ⟨S2048x2048, .bf16⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x2048 : Shape := ⟨2, ![32768, 2048]⟩
abbrev S2048x2048 : Shape := ⟨2, ![2048, 2048]⟩
abbrev S4x8192x2048 : Shape := ⟨3, ![4, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S4x8192x2048, .f32⟩
  | .hbm, ⟨3, _⟩ => ⟨S32768x2048, .f32⟩
  | .hbm, ⟨4, _⟩ => ⟨S4x8192x2048, .f32⟩
  | .hbm, ⟨5, _⟩ => ⟨S4x8192x2048, .f32⟩
  | .hbm, ⟨6, _⟩ => ⟨S4x8192x2048, .f32⟩
  | .hbm, ⟨7, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S32768x2048 : Shape := ⟨2, ![32768, 2048]⟩
abbrev S4x8192x256 : Shape := ⟨3, ![4, 8192, 256]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S32768x256 : Shape := ⟨2, ![32768, 256]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩

abbrev nBuf : Space → Nat
  | .hbm => 12
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048x2048, .bf16⟩
  | .hbm, ⟨7, _⟩ => ⟨S1x2048, .f32⟩
  | .hbm, ⟨8, _⟩ => ⟨S32768x256, .f32⟩
  | .hbm, ⟨9, _⟩ => ⟨S32768x256, .bf16⟩
  | .hbm, ⟨10, _⟩ => ⟨S256x2048, .bf16⟩
  | .hbm, ⟨11, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x256, .bf16⟩
  | .local _ .vmem, ⟨9, _⟩ => ⟨S1024x256, .bf16⟩
  | .local _ .vmem, ⟨10, _⟩ => ⟨S256x512, .bf16⟩
  | .local _ .vmem, ⟨11, _⟩ => ⟨S256x512, .bf16⟩
  | .local _ .vmem, ⟨12, _⟩ => ⟨S1024x512, .f32⟩
  | .local _ .vmem, ⟨13, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S32768x2048 : Shape := ⟨2, ![32768, 2048]⟩
abbrev S4x8192x256 : Shape := ⟨3, ![4, 8192, 256]⟩
abbrev S2048x2048 : Shape := ⟨2, ![2048, 2048]⟩
abbrev S2048 : Shape := ⟨1, ![2048]⟩
abbrev S256x2048 : Shape := ⟨2, ![256, 2048]⟩
abbrev S4x8192x2048 : Shape := ⟨3, ![4, 8192, 2048]⟩
abbrev S1x2048 : Shape := ⟨2, ![1, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S4x8192x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel9.lean ====
abbrev S32768x2048 : Shape := ⟨2, ![32768, 2048]⟩
abbrev S2048x7264 : Shape := ⟨2, ![2048, 7264]⟩
abbrev S_ : Shape := ⟨0, ![]⟩
abbrev S2048x32 : Shape := ⟨2, ![2048, 32]⟩
abbrev S2048x16 : Shape := ⟨2, ![2048, 16]⟩
abbrev S2048x64 : Shape := ⟨2, ![2048, 64]⟩
abbrev S2048x128 : Shape := ⟨2, ![2048, 128]⟩
abbrev S32768x128 : Shape := ⟨2, ![32768, 128]⟩
abbrev S1024x2048 : Shape := ⟨2, ![1024, 2048]⟩
abbrev S1024x128 : Shape := ⟨2, ![1024, 128]⟩
abbrev S256x2048 : Shape := ⟨2, ![256, 2048]⟩
abbrev S256x128 : Shape := ⟨2, ![256, 128]⟩

abbrev nBuf : Space → Nat
  | .hbm => 10
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S_, .f32⟩
  | .hbm, ⟨3, _⟩ => ⟨S2048x32, .f32⟩
  | .hbm, ⟨4, _⟩ => ⟨S2048x16, .f32⟩
  | .hbm, ⟨5, _⟩ => ⟨S2048x16, .f32⟩
  | .hbm, ⟨6, _⟩ => ⟨S2048x64, .f32⟩
  | .hbm, ⟨7, _⟩ => ⟨S2048x128, .f32⟩
  | .hbm, ⟨8, _⟩ => ⟨S2048x128, .bf16⟩
  | .hbm, ⟨9, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32768x2048 : Shape := ⟨2, ![32768, 2048]⟩
abbrev S2048x7264 : Shape := ⟨2, ![2048, 7264]⟩
abbrev S32768x7264 : Shape := ⟨2, ![32768, 7264]⟩
abbrev S32768x16 : Shape := ⟨2, ![32768, 16]⟩
abbrev S32768x64 : Shape := ⟨2, ![32768, 64]⟩
abbrev S_ : Shape := ⟨0, ![]⟩
abbrev S32768x32 : Shape := ⟨2, ![32768, 32]⟩
abbrev S32768x128 : Shape := ⟨2, ![32768, 128]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7264, .f32⟩
  | .hbm, ⟨2, _⟩ => ⟨S32768x2048, .f32⟩
  | .hbm, ⟨3, _⟩ => ⟨S32768x7264, .f32⟩
  | .hbm, ⟨4, _⟩ => ⟨S32768x16, .f32⟩
  | .hbm, ⟨5, _⟩ => ⟨S32768x64, .f32⟩
  | .hbm, ⟨6, _⟩ => ⟨S32768x16, .f32⟩
  | .hbm, ⟨7, _⟩ => ⟨S_, .f32⟩
  | .hbm, ⟨8, _⟩ => ⟨S32768x32, .f32⟩
  | .hbm, ⟨9, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4x8192x2048 : Shape := ⟨3, ![4, 8192, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S1x1x2048, .f32⟩
  | .hbm, ⟨16, _⟩ => ⟨S4x8192x2048, .f32⟩
  | .hbm, ⟨17, _⟩ => ⟨S4x8192x2048, .f32⟩
  | .hbm, ⟨18, _⟩ => ⟨S32768x2048, .f32⟩
  | .hbm, ⟨19, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Items.lean ====
/-
The body of the gated-linear-attention kernel, written once for a generic head `h` of the pair and a generic chunk
`c` of the sixteen the block holds.  A launch of the body is straight-line code: the same expressions repeated for
two heads and sixteen chunks.  Here each repeated expression is one function of what the body loads (`Loads`), and
the two theorems at the end say the stores of the body are exactly these functions' values.
-/
module

public import proofs.«01_k».proof.Proof.Gen.KernelIdeal.Value

@[expose] public section
set_option maxRecDepth 100000

noncomputable section
namespace Cert.Gla

open Cert.KernelIdeal Cert.KernelIdeal.Gen Idealize.ShloMosaic Idealize.ShloMosaic.TcCoe Idealize.SL.Sem

variable {F : FTy → Type} [FloatOps F]

/-- The rows of chunk `c` fit in a block of 1024 rows. -/
theorem slices_chunk (c : Fin 16) : S1024x64.Slices ![64 * c.val, 0] S64x64 := by
  refine ⟨rfl, fun a => ?_⟩
  match a with
  | 0 => show 64 * c.val + 64 ≤ 1024; omega
  | 1 => show 0 + 64 ≤ 64; omega

/-- Chunk `c`, head `h` of the queries' (or keys') block. -/
theorem inb_qk (h : Fin 2) (c : Fin 16) : ∀ a, (![64 * c.val, 64 * h.val] : Fin 2 → Nat) a + S64x64.size a ≤ S1024x128.size a := by
  intro a
  match a with
  | 0 => show 64 * c.val + 64 ≤ 1024; omega
  | 1 => show 64 * h.val + 64 ≤ 128; omega

/-- Chunk `c`, head `h` of the values' (or gates', or output's) block. -/
theorem inb_v (h : Fin 2) (c : Fin 16) : ∀ a, (![64 * c.val, 128 * h.val] : Fin 2 → Nat) a + S64x128.size a ≤ S1024x256.size a := by
  intro a
  match a with
  | 0 => show 64 * c.val + 64 ≤ 1024; omega
  | 1 => show 128 * h.val + 128 ≤ 256; omega

/-- Head `h` of the low-rank gate weights. -/
theorem inb_wa (h : Fin 2) : ∀ a, (![h.val, 0, 0] : Fin 3 → Nat) a + S1x16x64.size a ≤ S2x16x64.size a := by
  intro a
  match a with
  | 0 => show h.val + 1 ≤ 2; omega
  | 1 => show 0 + 16 ≤ 16; omega
  | 2 => show 0 + 64 ≤ 64; omega

/-- Head `h` of the gate bias. -/
theorem inb_ba (h : Fin 2) : ∀ a, (![h.val, 0, 0] : Fin 3 → Nat) a + S1x1x64.size a ≤ S2x1x64.size a := by
  intro a
  match a with
  | 0 => show h.val + 1 ≤ 2; omega
  | 1 => show 0 + 1 ≤ 1; omega
  | 2 => show 0 + 64 ≤ 64; omega

/-- Head `h` of the carried state. -/
theorem inb_st (h : Fin 2) : ∀ a, (![h.val, 0, 0] : Fin 3 → Nat) a + S1x128x64.size a ≤ S2x128x64.size a := by
  intro a
  match a with
  | 0 => show h.val + 1 ≤ 2; omega
  | 1 => show 0 + 128 ≤ 128; omega
  | 2 => show 0 + 64 ≤ 64; omega

/-- The gate inputs are the first 16 columns of their block. -/
theorem inb_zs : ∀ a, (![0, 0] : Fin 2 → Nat) a + S1024x16.size a ≤ S1024x128.size a := by
  intro a
  match a with
  | 0 => show 0 + 1024 ≤ 1024; omega
  | 1 => show 0 + 16 ≤ 128; omega

/-- The rectangle of chunk `c`, head `h`, 64 columns a head. -/
abbrev rqk (h : Fin 2) (c : Fin 16) : Rect S1024x128 := Rect.unit (s := S1024x128) ![64 * c.val, 64 * h.val] S64x64.size (inb_qk h c)
/-- The rectangle of chunk `c`, head `h`, 128 columns a head. -/
abbrev rv (h : Fin 2) (c : Fin 16) : Rect S1024x256 := Rect.unit (s := S1024x256) ![64 * c.val, 128 * h.val] S64x128.size (inb_v h c)
/-- The rectangle of head `h`'s state. -/
abbrev rst (h : Fin 2) : Rect S2x128x64 := Rect.unit (s := S2x128x64) ![h.val, 0, 0] S1x128x64.size (inb_st h)

/-- Everything one launch of the body loads, `st` being the carried state the launch starts from. -/
structure Loads (F : FTy → Type) where
  q : Fin 2 → Fin 16 → Vec F S64x64 .bf16
  k : Fin 2 → Fin 16 → Vec F S64x64 .bf16
  v : Fin 2 → Fin 16 → Vec F S64x128 .bf16
  gr : Fin 2 → Fin 16 → Vec F S64x128 .bf16
  zs : Vec F S1024x16 .f32
  wa : Fin 2 → Vec F S1x16x64 .bf16
  ba : Fin 2 → Vec F S1x1x64 .f32
  gn : Vec F S1x128 .f32

variable (L : Loads F) (h : Fin 2) (c : Fin 16)

/-- The causal mask: row at least column. -/
def mask : IVec S64x64 1 :=
  cmpi .sge (iota .tc S64x64 32 [0] iota_S64x64_d0_w32) (iota .tc S64x64 32 [1] iota_S64x64_d1_w32)

/-- The lower triangle of ones. -/
def tri : FVec F S64x64 .bf16 :=
  truncf .bf16 (select mask (broadcast S64x64 (Scalar.ofBits .f32 0x3F800000#32 : F .f32))
    (broadcast S64x64 (Scalar.ofBits .f32 0x00000000#32 : F .f32))) bitsLt_bf16_f32

/-- The gate's logit: gate inputs times gate weights plus bias. -/
def logit : FVec F S1024x64 .f32 :=
  addf (matmul dot_S1024x16_S16x64_S1024x64_1_0_0_1_n_n none (truncf .bf16 L.zs bitsLt_bf16_f32)
      (shapeCast S16x64 (L.wa h) shapeCasts_S1x16x64_S16x64) (constant S1024x64 .f32 0x00000000#32))
    (broadcastTo S1024x64 (shapeCast S1x64 (L.ba h) shapeCasts_S1x1x64_S1x64) broadcasts_S1x64_S1024x64)

/-- The gate's logarithm: a sixteenth of the log of the logit's sigmoid. -/
def gate : FVec F S1024x64 .f32 :=
  mulf (subf (minimumf (logit L h) (broadcast S1024x64 (Scalar.ofBits .f32 0x00000000#32 : F .f32)))
      (log (addf (broadcast S1024x64 (Scalar.ofBits .f32 0x3F800000#32 : F .f32))
        (exp (subf (broadcast S1024x64 (Scalar.ofBits .f32 0x00000000#32 : F .f32)) (absf (logit L h)))))))
    (broadcast S1024x64 (Scalar.ofBits .f32 0x3D800000#32 : F .f32))

/-- The gate's logarithm rounded to the narrow format. -/
def gateHi : FVec F S1024x64 .bf16 := truncf .bf16 (gate L h) bitsLt_bf16_f32
/-- What that rounding left out, rounded again. -/
def gateLo : FVec F S1024x64 .bf16 :=
  truncf .bf16 (subf (gate L h) (extf .f32 (gateHi L h) bitsLt_bf16_f32)) bitsLt_bf16_f32

/-- Running sums of the gate's logarithm within chunk `c`. -/
def cum : FVec F S64x64 .f32 :=
  addf (matmul dot_S64x64_S64x64_S64x64_1_0_0_1_n_n none tri
      (extractStridedSlice S64x64 ![64 * c.val, 0] (gateHi L h) (slices_chunk c)) (constant S64x64 .f32 0x00000000#32))
    (matmul dot_S64x64_S64x64_S64x64_1_0_0_1_n_n none tri
      (extractStridedSlice S64x64 ![64 * c.val, 0] (gateLo L h) (slices_chunk c)) (constant S64x64 .f32 0x00000000#32))

/-- The running sum at the middle row, the base of the two scalings. -/
def mid : FVec F S1x64 .f32 := extractStridedSlice S1x64 ![31, 0] (cum L h c) slices_S64x64_o31_0_S1x64
/-- The running sum at the last row. -/
def fin : FVec F S1x64 .f32 := extractStridedSlice S1x64 ![63, 0] (cum L h c) slices_S64x64_o63_0_S1x64

/-- Scaled queries, based at the middle row. -/
def qt : FVec F S64x64 .f32 :=
  mulf (mulf (extf .f32 (L.q h c) bitsLt_bf16_f32) (broadcast S64x64 (Scalar.ofBits .f32 0x3E000000#32 : F .f32)))
    (exp (subf (cum L h c) (broadcastTo S64x64 (mid L h c) broadcasts_S1x64_S64x64)))
/-- Scaled keys, based at the middle row. -/
def kt : FVec F S64x64 .f32 :=
  mulf (extf .f32 (L.k h c) bitsLt_bf16_f32)
    (exp (subf (broadcastTo S64x64 (mid L h c) broadcasts_S1x64_S64x64) (cum L h c)))
/-- Queries scaled from the chunk's start, for the carried state. -/
def qg : FVec F S64x64 .bf16 :=
  truncf .bf16 (mulf (qt L h c) (broadcastTo S64x64 (exp (mid L h c)) broadcasts_S1x64_S64x64)) bitsLt_bf16_f32
/-- Keys scaled to the chunk's end, for the carried state. -/
def kd : FVec F S64x64 .bf16 :=
  truncf .bf16 (mulf (kt L h c) (broadcastTo S64x64 (exp (subf (fin L h c) (mid L h c))) broadcasts_S1x64_S64x64)) bitsLt_bf16_f32
/-- The chunk's decay of the state. -/
def dec : FVec F S1x64 .f32 := exp (fin L h c)
/-- Scores of the chunk's queries against its keys. -/
def sc : FVec F S64x64 .f32 :=
  matmul dot_S64x64_S64x64_S64x64_1_1_0_0_n_n none (truncf .bf16 (qt L h c) bitsLt_bf16_f32)
    (truncf .bf16 (kt L h c) bitsLt_bf16_f32) (constant S64x64 .f32 0x00000000#32)
/-- What the chunk adds to the state. -/
def kv : FVec F S128x64 .f32 :=
  matmul dot_S64x128_S64x64_S128x64_0_0_1_1_n_n none (L.v h c) (kd L h c) (constant S128x64 .f32 0x00000000#32)
/-- The part of the output the chunk's own keys give. -/
def intra : FVec F S64x128 .f32 :=
  matmul dot_S64x64_S64x128_S64x128_1_0_0_1_n_n none
    (truncf .bf16 (select mask (sc L h c) (broadcast S64x64 (Scalar.ofBits .f32 0x00000000#32 : F .f32))) bitsLt_bf16_f32)
    (L.v h c) (constant S64x128 .f32 0x00000000#32)

/-- The state after `n` of the chunks, from `s0`. -/
def st (s0 : Vec F S1x128x64 .f32) : (n : ℕ) → n ≤ 16 → FVec F S128x64 .f32
  | 0, _ => shapeCast S128x64 s0 shapeCasts_S1x128x64_S128x64
  | n + 1, hn => addf (mulf (st s0 n (Nat.le_of_succ_le hn)) (broadcastTo S128x64 (dec L h ⟨n, hn⟩) broadcasts_S1x64_S128x64)) (kv L h ⟨n, hn⟩)

/-- The part of the output the carried state gives. -/
def inter (s0 : Vec F S1x128x64 .f32) : FVec F S64x128 .f32 :=
  matmul dot_S64x64_S128x64_S64x128_1_1_0_0_n_n none (qg L h c)
    (truncf .bf16 (st L h s0 c.val (Nat.le_of_lt c.isLt)) bitsLt_bf16_f32) (constant S64x128 .f32 0x00000000#32)

/-- The mixer's output before its normalisation. -/
def mix (s0 : Vec F S1x128x64 .f32) : FVec F S64x128 .f32 := addf (intra L h c) (inter L h c s0)

/-- What the body stores for chunk `c` and head `h`: the mixed output, normalised over the head and gated. -/
def out (s0 : Vec F S1x128x64 .f32) : FVec F S64x128 .bf16 :=
  truncf .bf16 (mulf (mulf (mulf (mix L h c s0) (broadcastTo S64x128 (rsqrt (addf
      (divf (shapeCast S64x1 (multiReduction .add [1] S64 (mulf (mix L h c s0) (mix L h c s0)) 0x00000000#32
          reduces_S64x128_S64 (.inl rfl) rfl) shapeCasts_S64_S64x1)
        (broadcast S64x1 (Scalar.ofBits .f32 0x43000000#32 : F .f32)))
      (broadcast S64x1 (Scalar.ofBits .f32 0x358637BD#32 : F .f32)))) broadcasts_S64x1_S64x128))
      (broadcastTo S64x128 (shapeCast S1x128 L.gn shapeCasts_S1x128_S1x128) broadcasts_S1x128_S64x128))
    (mulf (extf .f32 (L.gr h c) bitsLt_bf16_f32)
      (divf (broadcast S64x128 (Scalar.ofBits .f32 0x3F800000#32 : F .f32))
        (addf (broadcast S64x128 (Scalar.ofBits .f32 0x3F800000#32 : F .f32))
          (exp (subf (broadcast S64x128 (Scalar.ofBits .f32 0x00000000#32 : F .f32)) (extf .f32 (L.gr h c) bitsLt_bf16_f32)))))))
    bitsLt_bf16_f32

/-- The state the body stores back for head `h`. -/
def stOut (s0 : Vec F S1x128x64 .f32) : Vec F S1x128x64 .f32 :=
  shapeCast S1x128x64 (st L h s0 16 (Nat.le_refl _)) shapeCasts_S128x64_S1x128x64

/-- The output store of chunk `c`, head `h`. -/
def piece (s0 : Fin 2 → Vec F S1x128x64 .f32) : View.Piece (Elt F) S1024x256 .bf16 := ⟨rv h c, out L h c (s0 h)⟩

/-- The stores of head `h`, last first. -/
def headPieces (s0 : Fin 2 → Vec F S1x128x64 .f32) : List (View.Piece (Elt F) S1024x256 .bf16) :=
  [piece L h 15 s0, piece L h 14 s0, piece L h 13 s0, piece L h 12 s0, piece L h 11 s0, piece L h 10 s0, piece L h 9 s0,
    piece L h 8 s0, piece L h 7 s0, piece L h 6 s0, piece L h 5 s0, piece L h 4 s0, piece L h 3 s0, piece L h 2 s0,
    piece L h 1 s0, piece L h 0 s0]

end Cert.Gla
end
-- ==== Proof.Pieces.lean ====
/-
The stores of one launch of the body are the generic expressions of `Items`, at what the launch loads.  Two cases:
the first block of a sequence starts from a state it has just zeroed (case A), every other block from the state the
block before left (case B).
-/
module

public import proofs.«01_k».proof.Proof.Items
public import Idealize.ShloMosaic.Lib.WritesUnit
public import Idealize.ShloMosaic.Lib.VecWindow

@[expose] public section
set_option maxRecDepth 100000

noncomputable section
namespace Cert.Gla

open Cert.KernelIdeal Cert.KernelIdeal.Gen Idealize.ShloMosaic Idealize.ShloMosaic.TcCoe Idealize.SL.Sem

variable {F : FTy → Type} [FloatOps F]

variable (c : Dev nD) (i : grid0.Coords)
  (arg3 : Memref sig .tc .vmem S1024x128 .bf16) (harg3 : arg3.IsWhole) (arg4 : Memref sig .tc .vmem S1024x128 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S1024x128 .f32) (harg7 : arg7.IsWhole) (arg8 : Memref sig .tc .vmem S2x16x64 .bf16) (harg8 : arg8.IsWhole)
  (arg9 : Memref sig .tc .vmem S2x1x64 .f32) (harg9 : arg9.IsWhole) (arg10 : Memref sig .tc .vmem S1x128 .f32) (harg10 : arg10.IsWhole)
  (arg11 : Memref sig .tc .vmem S1024x256 .bf16) (harg11 : arg11.IsWhole) (arg12 : Memref sig .tc .vmem S2x128x64 .f32) (harg12 : arg12.IsWhole)
  (x0 : Vec F S1024x128 .bf16) (x1 : Vec F S1024x128 .bf16) (x2 : Vec F S1024x256 .bf16) (x3 : Vec F S1024x256 .bf16)
  (x4 : Vec F S1024x128 .f32) (x5 : Vec F S2x16x64 .bf16) (x6 : Vec F S2x1x64 .f32) (x7 : Vec F S1x128 .f32) (xs0 : Vec F S2x128x64 .f32)

/-- What a launch loads, as reads of its staged blocks. -/
def rawLoads : Loads F where
  q := fun h c => View.readAt (Elt F) arg3.view (rqk h c).toLoadRect (harg3.unread x0)
  k := fun h c => View.readAt (Elt F) arg4.view (rqk h c).toLoadRect (harg4.unread x1)
  v := fun h c => View.readAt (Elt F) arg5.view (rv h c).toLoadRect (harg5.unread x2)
  gr := fun h c => View.readAt (Elt F) arg6.view (rv h c).toLoadRect (harg6.unread x3)
  zs := View.readAt (Elt F) arg7.view (Rect.unit (s := S1024x128) ![0, 0] S1024x16.size inb_zs).toLoadRect (harg7.unread x4)
  wa := fun h => View.readAt (Elt F) arg8.view (Rect.unit (s := S2x16x64) ![h.val, 0, 0] S1x16x64.size (inb_wa h)).toLoadRect (harg8.unread x5)
  ba := fun h => View.readAt (Elt F) arg9.view (Rect.unit (s := S2x1x64) ![h.val, 0, 0] S1x1x64.size (inb_ba h)).toLoadRect (harg9.unread x6)
  gn := View.readAt (Elt F) arg10.view (Rect.unit (s := S1x128) ![0, 0] S1x128.size inb_S1x128_S1x128_0_0).toLoadRect (harg10.unread x7)

/-- The state a case-B launch starts from. -/
def rawState (h : Fin 2) : Vec F S1x128x64 .f32 := View.readAt (Elt F) arg12.view (rst h).toLoadRect (harg12.unread xs0)

/-- A launch in case B stores every chunk and head of the output block once, at the generic expression. -/
theorem outB (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs0).1
      = headPieces (rawLoads arg3 harg3 arg4 harg4 arg5 harg5 arg6 harg6 arg7 harg7 arg8 harg8 arg9 harg9 arg10 harg10 x0 x1 x2 x3 x4 x5 x6 x7) 1 (rawState arg12 harg12 xs0)
        ++ headPieces (rawLoads arg3 harg3 arg4 harg4 arg5 harg5 arg6 harg6 arg7 harg7 arg8 harg8 arg9 harg9 arg10 harg10 x0 x1 x2 x3 x4 x5 x6 x7) 0 (rawState arg12 harg12 xs0) := by
  sl_kernel_rfl

/-- The state stores of a list of stores, newest first: head 1 over head 0. -/
def stPieces (L : Loads F) (s0 : Fin 2 → Vec F S1x128x64 .f32) : List (View.Piece (Elt F) S2x128x64 .f32) :=
  [⟨rst 1, stOut L 1 (s0 1)⟩, ⟨rst 0, stOut L 0 (s0 0)⟩]

/-- A launch in case B stores both heads' states back. -/
theorem stateB (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1
      = stPieces (rawLoads arg3 harg3 arg4 harg4 arg5 harg5 arg6 harg6 arg7 harg7 arg8 harg8 arg9 harg9 arg10 harg10 x0 x1 x2 x3 x4 x5 x6 x7) (rawState arg12 harg12 xs0) := by
  sl_kernel_rfl

/-- The store of zeros a case-A launch begins with. -/
def zeroPiece : View.Piece (Elt F) S2x128x64 .f32 :=
  ⟨Rect.unit (s := S2x128x64) ![0, 0, 0] S2x128x64.size inb_S2x128x64_S2x128x64_0_0_0,
    broadcast S2x128x64 (Scalar.ofBits .f32 0x00000000#32 : F .f32)⟩

/-- Head 0's state as a case-A launch loads it: read back from the zeros. -/
def zero0 : Vec F S1x128x64 .f32 := arg12.view.readCov [zeroPiece] (rst 0).toLoadRect

/-- Head 1's state as a case-A launch loads it: read back after head 0's state was stored. -/
def zero1 (L : Loads F) : Vec F S1x128x64 .f32 :=
  arg12.view.readCov [⟨rst 0, stOut L 0 (zero0 arg12)⟩, zeroPiece] (rst 1).toLoadRect

/-- The states a case-A launch starts from. -/
def zeroState (L : Loads F) (h : Fin 2) : Vec F S1x128x64 .f32 := if h = 0 then zero0 arg12 else zero1 arg12 L

/-- A launch in case A stores every chunk and head of the output block once, at the generic expression. -/
theorem outA (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).1
      = headPieces (rawLoads arg3 harg3 arg4 harg4 arg5 harg5 arg6 harg6 arg7 harg7 arg8 harg8 arg9 harg9 arg10 harg10 x0 x1 x2 x3 x4 x5 x6 x7) 1 (zeroState arg12 (rawLoads arg3 harg3 arg4 harg4 arg5 harg5 arg6 harg6 arg7 harg7 arg8 harg8 arg9 harg9 arg10 harg10 x0 x1 x2 x3 x4 x5 x6 x7))
        ++ headPieces (rawLoads arg3 harg3 arg4 harg4 arg5 harg5 arg6 harg6 arg7 harg7 arg8 harg8 arg9 harg9 arg10 harg10 x0 x1 x2 x3 x4 x5 x6 x7) 0 (zeroState arg12 (rawLoads arg3 harg3 arg4 harg4 arg5 harg5 arg6 harg6 arg7 harg7 arg8 harg8 arg9 harg9 arg10 harg10 x0 x1 x2 x3 x4 x5 x6 x7)) := by
  sl_kernel_rfl

/-- A launch in case A stores both heads' states over its zeros. -/
theorem stateA (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).2.1
      = stPieces (rawLoads arg3 harg3 arg4 harg4 arg5 harg5 arg6 harg6 arg7 harg7 arg8 harg8 arg9 harg9 arg10 harg10 x0 x1 x2 x3 x4 x5 x6 x7) (zeroState arg12 (rawLoads arg3 harg3 arg4 harg4 arg5 harg5 arg6 harg6 arg7 harg7 arg8 harg8 arg9 harg9 arg10 harg10 x0 x1 x2 x3 x4 x5 x6 x7)) ++ [zeroPiece] := by
  sl_kernel_rfl

/-- The loads of a launch as parts of its staged blocks. -/
def blockLoads : Loads F where
  q := fun h c => View.ld x0 (rqk h c)
  k := fun h c => View.ld x1 (rqk h c)
  v := fun h c => View.ld x2 (rv h c)
  gr := fun h c => View.ld x3 (rv h c)
  zs := View.ld x4 (Rect.unit (s := S1024x128) ![0, 0] S1024x16.size inb_zs)
  wa := fun h => View.ld x5 (Rect.unit (s := S2x16x64) ![h.val, 0, 0] S1x16x64.size (inb_wa h))
  ba := fun h => View.ld x6 (Rect.unit (s := S2x1x64) ![h.val, 0, 0] S1x1x64.size (inb_ba h))
  gn := View.ld x7 (Rect.unit (s := S1x128) ![0, 0] S1x128.size inb_S1x128_S1x128_0_0)

/-- A staged block read back is the block. -/
theorem rawLoads_eq : (rawLoads arg3 harg3 arg4 harg4 arg5 harg5 arg6 harg6 arg7 harg7 arg8 harg8 arg9 harg9 arg10 harg10 x0 x1 x2 x3 x4 x5 x6 x7) = blockLoads x0 x1 x2 x3 x4 x5 x6 x7 := by
  unfold rawLoads blockLoads
  simp only [View.readAt_eq_ld, Memref.IsWhole.read_unread]

/-- The carried state read back is the state. -/
theorem rawState_eq : rawState arg12 harg12 xs0 = fun h => View.ld xs0 (rst h) := by
  funext h
  unfold rawState
  rw [View.readAt_eq_ld, Memref.IsWhole.read_unread]

end Cert.Gla
end
-- ==== Proof.Stores.lean ====
/-
What the stores of one launch leave, read at an index: the output block entry by entry, the carried state entry by
entry, and the state a sequence starts from.
-/
module

public import proofs.«01_k».proof.Proof.Pieces
public import Idealize.ShloMosaic.Lib.Pointwise

@[expose] public section
set_option maxRecDepth 100000

noncomputable section
namespace Cert.Gla

open Cert.KernelIdeal Cert.KernelIdeal.Gen Idealize.ShloMosaic Idealize.ShloMosaic.TcCoe Idealize.SL.Sem

variable {F : FTy → Type} [FloatOps F]

/-- The stores of a head are one for each chunk. -/
theorem headPieces_eq (L : Loads F) (h : Fin 2) (s0 : Fin 2 → Vec F S1x128x64 .f32) :
    headPieces L h s0 = ((List.finRange 16).reverse.map fun c => piece L h c s0) := by
  rfl

/-- A store of a head is that of one of its chunks, and conversely. -/
theorem mem_headPieces (L : Loads F) (h : Fin 2) (s0 : Fin 2 → Vec F S1x128x64 .f32) (q : View.Piece (Elt F) S1024x256 .bf16) :
    q ∈ headPieces L h s0 ↔ ∃ c, q = piece L h c s0 := by
  rw [headPieces_eq]
  simp only [List.mem_map, List.mem_reverse, List.mem_finRange, true_and, eq_comm]

/-- Entry `(r, d)` of chunk `c`, head `h` lies in the store of chunk `c'`, head `h'` only when the two agree. -/
theorem mem_rv {h h' : Fin 2} {c c' : Fin 16} (x : (rv h c).shape.Idx) (hx : (rv h c).emb x ∈ (rv h' c').set) : h' = h ∧ c' = c := by
  rw [Rect.mem_set_unit] at hx
  have h0 := hx (0 : Fin 2)
  have h1 := hx (1 : Fin 2)
  have hx0 : (x (0 : Fin 2)).val < 64 := (x (0 : Fin 2)).isLt
  have hx1 : (x (1 : Fin 2)).val < 128 := (x (1 : Fin 2)).isLt
  change 64 * c'.val ≤ 64 * c.val + 1 * (x (0 : Fin 2)).val ∧ 64 * c.val + 1 * (x (0 : Fin 2)).val < 64 * c'.val + 64 at h0
  change 128 * h'.val ≤ 128 * h.val + 1 * (x (1 : Fin 2)).val ∧ 128 * h.val + 1 * (x (1 : Fin 2)).val < 128 * h'.val + 128 at h1
  constructor <;> apply Fin.ext <;> omega

/-- The output block after a launch, at row `r` of chunk `c` and column `d` of head `h`. -/
theorem read_out {sg : RefSig} {κ : Kind} {sp : Space} (v : View sg κ sp S1024x256 .bf16) (f : v.ty.Contents (Elt F))
    (L : Loads F) (s0 : Fin 2 → Vec F S1x128x64 .f32) (h : Fin 2) (c : Fin 16) (r : Fin 64) (d : Fin 128) :
    v.read (Elt F) (v.writes (Elt F) f (headPieces L 1 s0 ++ headPieces L 0 s0))
        (ix2 (⟨64 * c.val + r.val, by omega⟩ : Fin 1024) (⟨128 * h.val + d.val, by omega⟩ : Fin 256))
      = out L h c (s0 h) (ix2 r d) := by
  have hp : piece L h c s0 ∈ headPieces L 1 s0 ++ headPieces L 0 s0 := by
    rw [List.mem_append, mem_headPieces, mem_headPieces]
    match h with
    | 0 => exact Or.inr ⟨c, rfl⟩
    | 1 => exact Or.inl ⟨c, rfl⟩
  have hu : ∀ q ∈ headPieces L 1 s0 ++ headPieces L 0 s0,
      (rv h c).emb (ix2 r d : S64x128.Idx) ∈ q.1.set → q = piece L h c s0 := by
    intro q hq hx
    rw [List.mem_append, mem_headPieces, mem_headPieces] at hq
    rcases hq with ⟨c', rfl⟩ | ⟨c', rfl⟩ <;>
      · obtain ⟨hh, hc⟩ := mem_rv (x := (ix2 r d : S64x128.Idx)) hx
        rw [hc, ← hh]
  have he : (rv h c).emb (ix2 r d : S64x128.Idx)
      = ix2 (⟨64 * c.val + r.val, by omega⟩ : Fin 1024) (⟨128 * h.val + d.val, by omega⟩ : Fin 256) := by
    funext a
    match a with
    | 0 => exact Fin.ext (by show 64 * c.val + 1 * r.val = 64 * c.val + r.val; omega)
    | 1 => exact Fin.ext (by show 128 * h.val + 1 * d.val = 128 * h.val + d.val; omega)
  rw [← he]
  exact View.read_writes_of_unique v f (piece L h c s0) (ix2 r d : S64x128.Idx) _ hp hu

/-- The carried state after a launch, whatever was stored before the two heads' states. -/
theorem read_state {sg : RefSig} {κ : Kind} {sp : Space} (v : View sg κ sp S2x128x64 .f32) (f : v.ty.Contents (Elt F))
    (L : Loads F) (s0 : Fin 2 → Vec F S1x128x64 .f32) (rest : List (View.Piece (Elt F) S2x128x64 .f32))
    (h : Fin 2) (d : Fin 128) (k : Fin 64) :
    v.read (Elt F) (v.writes (Elt F) f (stPieces L s0 ++ rest)) (ix3 h d k) = stOut L h (s0 h) (ix3 0 d k) := by
  match h with
  | 1 =>
    exact View.read_writes_cons_unit_of_mem v f (inb_st 1) (stOut L 1 (s0 1)) _ (ix3 1 d k) (ix3 0 d k : S1x128x64.Idx) rfl fun a => by
      match a with
      | 0 => rfl
      | 1 => exact (Nat.zero_add _).symm
      | 2 => exact (Nat.zero_add _).symm
  | 0 =>
    refine (View.read_writes_cons_unit_of_not_mem v f (inb_st 1) (stOut L 1 (s0 1)) _ (ix3 0 d k) rfl 0 (Or.inl Nat.one_pos)).trans ?_
    exact View.read_writes_cons_unit_of_mem v f (inb_st 0) (stOut L 0 (s0 0)) _ (ix3 0 d k) (ix3 0 d k : S1x128x64.Idx) rfl fun a => by
      match a with
      | 0 => rfl
      | 1 => exact (Nat.zero_add _).symm
      | 2 => exact (Nat.zero_add _).symm

/-- Entry `(d, k)` of head `h`'s state is entry `(h, d, k)` of the pair's. -/
theorem rst_idx (h : Fin 2) (d : Fin 128) (k : Fin 64) : (rst h).idx (ix3 0 d k) = ix3 h d k := by
  funext a
  match a with
  | 0 => exact Fin.ext (by show h.val + 1 * 0 = h.val; omega)
  | 1 => exact Fin.ext (by show 0 + 1 * d.val = d.val; omega)
  | 2 => exact Fin.ext (by show 0 + 1 * k.val = k.val; omega)

/-- After the store of zeros everything reads zero. -/
theorem read_zero {sg : RefSig} {κ : Kind} {sp : Space} (v : View sg κ sp S2x128x64 .f32) (f : v.ty.Contents (Elt F))
    (y : S2x128x64.Idx) :
    v.read (Elt F) (v.writes (Elt F) f [zeroPiece]) y = (Scalar.ofBits .f32 0x00000000#32 : F .f32) :=
  View.read_writes_cons_unit_of_mem v f inb_S2x128x64_S2x128x64_0_0_0
    (broadcast S2x128x64 (Scalar.ofBits .f32 0x00000000#32 : F .f32)) [] y y rfl fun a => by
      match a with
      | 0 => exact (Nat.zero_add _).symm
      | 1 => exact (Nat.zero_add _).symm
      | 2 => exact (Nat.zero_add _).symm

/-- A sequence starts from zeros, for both heads. -/
theorem zeroState_apply (arg12 : Memref sig .tc .vmem S2x128x64 .f32) (L : Loads F) (h : Fin 2) (d : Fin 128) (k : Fin 64) :
    zeroState arg12 L h (ix3 0 d k) = (Scalar.ofBits .f32 0x00000000#32 : F .f32) := by
  match h with
  | 0 =>
    show zero0 arg12 (ix3 0 d k) = _
    unfold zero0 View.readCov
    rw [View.readAt_eq_ld]
    exact read_zero _ _ _
  | 1 =>
    show zero1 arg12 L (ix3 0 d k) = _
    unfold zero1 View.readCov
    rw [View.readAt_eq_ld]
    unfold View.ld
    rw [rst_idx]
    exact (View.read_writes_cons_unit_of_not_mem arg12.view _ (inb_st 0) (stOut L 0 (zero0 arg12)) [zeroPiece] (ix3 1 d k) rfl 0
      (Or.inr (Nat.le_refl 1))).trans (read_zero _ _ _)

end Cert.Gla
end
-- ==== Proof.Model.lean ====
/-
Gated linear attention over the extended reals, one head of one sequence: the sequence is 128 chunks of 64 rows, the
state a 128 by 64 matrix that decays by the gate and takes in each row's value times its key.  Queries, keys, values
and output gates are any extended reals; the gates' logarithms are reals.  The scalar facts that carry the two ways of
writing it (based at a middle row, or not) into each other are at the end.
-/
module

public import Idealize.ShloMosaic.Lib.Pointwise
public import Idealize.ShloMosaic.Lib.IdealHost

@[expose] public section

noncomputable section
namespace Cert.Gla

open Idealize.ShloMosaic

/-- The log of the sigmoid of `x`, divided by sixteen. -/
def logGate (x : ℝ) : ℝ := (min x 0 - Real.log (1 + Real.exp (-|x|))) / 16

/-- What one head of one sequence is computed from. -/
structure Head where
  q : Fin 128 → Fin 64 → Fin 64 → EReal
  k : Fin 128 → Fin 64 → Fin 64 → EReal
  v : Fin 128 → Fin 64 → Fin 128 → EReal
  /-- the gate's logarithm -/
  g : Fin 128 → Fin 64 → Fin 64 → ℝ

variable (D : Head) (n : Fin 128)

/-- The gates' running sum within chunk `n`, up to and including row `i`. -/
def Head.sum (i k : Fin 64) : ℝ := ∑ j : Fin 64, if j.val ≤ i.val then D.g n j k else 0

/-- One eighth, the scale of the queries. -/
def scale : EReal := Ideal.ofBits .f32 0x3E000000#32

/-- The score of row `j`'s key at row `i`'s query: the key decayed from row `j` to row `i`. -/
def Head.score (i j : Fin 64) : EReal :=
  if j.val ≤ i.val then ∑ k : Fin 64, (D.q n i k * scale) * (D.k n j k * ((Real.exp (D.sum n i k - D.sum n j k) : ℝ) : EReal)) else 0

/-- The state after the first `m` chunks. -/
def Head.state : (m : ℕ) → m ≤ 128 → Fin 128 → Fin 64 → EReal
  | 0, _, _, _ => 0
  | m + 1, hm, d, k =>
    Head.state m (Nat.le_of_succ_le hm) d k * ((Real.exp (D.sum ⟨m, hm⟩ 63 k) : ℝ) : EReal)
      + ∑ j : Fin 64, D.v ⟨m, hm⟩ j d * (D.k ⟨m, hm⟩ j k * ((Real.exp (D.sum ⟨m, hm⟩ 63 k - D.sum ⟨m, hm⟩ j k) : ℝ) : EReal))

/-- One step of the state: decay by the chunk's total gate and add the chunk's keys and values. -/
theorem Head.state_succ (m : ℕ) (hm : m + 1 ≤ 128) (d : Fin 128) (k : Fin 64) :
    D.state (m + 1) hm d k = D.state m (Nat.le_of_succ_le hm) d k * ((Real.exp (D.sum ⟨m, hm⟩ 63 k) : ℝ) : EReal)
      + ∑ j : Fin 64, D.v ⟨m, hm⟩ j d * (D.k ⟨m, hm⟩ j k * ((Real.exp (D.sum ⟨m, hm⟩ 63 k - D.sum ⟨m, hm⟩ j k) : ℝ) : EReal)) := rfl

/-- The mixed output of row `i` of chunk `n`: the chunk's own keys, and the state the chunks before left. -/
def Head.mixed (i : Fin 64) (d : Fin 128) : EReal :=
  (∑ j : Fin 64, D.score n i j * D.v n j d)
    + ∑ k : Fin 64, ((D.q n i k * scale) * ((Real.exp (D.sum n i k) : ℝ) : EReal)) * D.state n.val (Nat.le_of_lt n.isLt) d k

/-- A row `o` normalised over its head, times the norm's weight and the output gate's swish. -/
def finish (o : Fin 128 → EReal) (gn : Fin 128 → EReal) (gr : EReal) (d : Fin 128) : EReal :=
  o d * Ideal.rsqrt (Ideal.div (∑ e : Fin 128, o e * o e) (Ideal.ofBits .f32 0x43000000#32) + Ideal.ofBits .f32 0x358637BD#32)
    * gn d * (gr * Ideal.div 1 (1 + Ideal.exp (0 - gr)))

/-! ### Scalars -/

/-- The word of one sixteenth. -/
theorem ofBits_sixteenth : Ideal.ofBits .f32 0x3D800000#32 = (((1 : ℝ) / 16 : ℝ) : EReal) := by
  simp [Ideal.ofBits, Ideal.ieee, -EReal.coe_mul]; norm_num

/-- The word of sixteen. -/
theorem ofBits_sixteen : Ideal.ofBits .f32 0x41800000#32 = ((16 : ℝ) : EReal) := by
  simp [Ideal.ofBits, Ideal.ieee, -EReal.coe_mul]; norm_num

/-- The log term of the gate at a real logit. -/
theorem log_term (x : ℝ) : Ideal.log (1 + Ideal.exp (((-|x| : ℝ)) : EReal)) = ((Real.log (1 + Real.exp (-|x|)) : ℝ) : EReal) := by
  have hp : 0 < 1 + Real.exp (-|x|) := by positivity
  rw [Ideal.exp_coe, show (1 : EReal) = ((1 : ℝ) : EReal) from rfl, ← EReal.coe_add, Ideal.log_coe, if_neg (not_le.mpr hp)]

/-- The larger of a real and its negative is its absolute value. -/
theorem max_neg_coe (x : ℝ) : max (x : EReal) (-(x : EReal)) = ((|x| : ℝ) : EReal) := by
  rw [← EReal.coe_neg, ← EReal.coe_strictMono.monotone.map_max]
  rfl

/-- The kernel's gate at a real logit. -/
theorem gate_kernel (x : ℝ) :
    (min (x : EReal) 0 - Ideal.log (1 + Ideal.exp (0 - max (x : EReal) (-(x : EReal))))) * Ideal.ofBits .f32 0x3D800000#32
      = ((logGate x : ℝ) : EReal) := by
  rw [max_neg_coe, zero_sub, ← EReal.coe_neg, log_term, ofBits_sixteenth, show (0 : EReal) = ((0 : ℝ) : EReal) from rfl,
    ← EReal.coe_strictMono.monotone.map_min, ← EReal.coe_sub, ← EReal.coe_mul]
  unfold logGate
  congr 1
  ring

/-- The reference's gate at a real logit. -/
theorem gate_reference (x : ℝ) :
    Ideal.div (-(max (-(x : EReal)) 0 + Ideal.log (1 + Ideal.exp (-(max (-(x : EReal) - 0) (-(-(x : EReal) - 0)))))))
        (Ideal.ofBits .f32 0x41800000#32)
      = ((logGate x : ℝ) : EReal) := by
  have h16 : ((16 : ℝ) : EReal) ≠ 0 := by
    rw [show (0 : EReal) = ((0 : ℝ) : EReal) from rfl]
    exact fun h => by have := EReal.coe_injective h; norm_num at this
  rw [sub_zero, neg_neg, max_comm (-(x : EReal)) (x : EReal), max_neg_coe, ← EReal.coe_neg |x|, log_term, ofBits_sixteen]
  unfold Ideal.div
  rw [if_neg h16, show (0 : EReal) = ((0 : ℝ) : EReal) from rfl, ← EReal.coe_neg x, ← EReal.coe_strictMono.monotone.map_max,
    ← EReal.coe_add, ← EReal.coe_neg, ← EReal.coe_inv, ← EReal.coe_mul]
  unfold logGate
  congr 1
  rw [← div_eq_mul_inv]
  congr 1
  rcases le_total x 0 with h | h
  · rw [min_eq_left h, max_eq_left (by linarith)]; ring
  · rw [min_eq_right h, max_eq_right (by linarith)]; ring

/-- A score's term based at a middle row is the term itself. -/
theorem rebase_score (q k s : EReal) (a b m : ℝ) :
    (q * s * Ideal.exp ((a : EReal) - (m : EReal))) * (k * Ideal.exp ((m : EReal) - (b : EReal)))
      = (q * s) * (k * ((Real.exp (a - b) : ℝ) : EReal)) := by
  rw [← EReal.coe_sub, ← EReal.coe_sub, Ideal.exp_coe, Ideal.exp_coe,
    show a - b = (a - m) + (m - b) by ring, Real.exp_add, EReal.coe_mul]
  ac_rfl

/-- A query based at a middle row and moved to the chunk's start. -/
theorem rebase_query (q s : EReal) (a m : ℝ) :
    q * s * Ideal.exp ((a : EReal) - (m : EReal)) * Ideal.exp (m : EReal) = (q * s) * ((Real.exp a : ℝ) : EReal) := by
  rw [← EReal.coe_sub, Ideal.exp_coe, Ideal.exp_coe, show Real.exp a = Real.exp (a - m) * Real.exp m by rw [← Real.exp_add]; ring_nf,
    EReal.coe_mul]
  ac_rfl

/-- A key based at a middle row and moved to the chunk's end. -/
theorem rebase_key (k : EReal) (b m e : ℝ) :
    k * Ideal.exp ((m : EReal) - (b : EReal)) * Ideal.exp ((e : EReal) - (m : EReal)) = k * ((Real.exp (e - b) : ℝ) : EReal) := by
  rw [← EReal.coe_sub, ← EReal.coe_sub, Ideal.exp_coe, Ideal.exp_coe,
    show e - b = (m - b) + (e - m) by ring, Real.exp_add, EReal.coe_mul]
  ac_rfl

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Gla
end
-- ==== Proof.ItemValues.lean ====
/-
The body's expressions at an index, over the extended reals, are those of the model: a launch that loads 16 consecutive
chunks of a head and starts from the model's state after the chunks before stores the model's outputs and leaves the
model's state.
-/
module

public import proofs.«01_k».proof.Proof.Stores
public import proofs.«01_k».proof.Proof.Model

@[expose] public section
set_option maxRecDepth 100000

noncomputable section
namespace Cert.Gla

open Cert.KernelIdeal Cert.KernelIdeal.Gen Idealize.ShloMosaic Idealize.ShloMosaic.TcCoe Idealize.SL.Sem

/-- Chunk `c` of block `s` among the sequence's chunks. -/
def chunk (s : Fin 8) (c : Fin 16) : Fin 128 := ⟨16 * s.val + c.val, by omega⟩

/-- Row `r` of chunk `c` within a block. -/
def row (c : Fin 16) (r : Fin 64) : Fin 1024 := ⟨64 * c.val + r.val, by omega⟩

/-- A launch's loads for head `h` are block `s` of the head `D`. -/
structure Fits (L : Loads Ideal) (h : Fin 2) (D : Head) (s : Fin 8) : Prop where
  q : ∀ c r k, L.q h c (ix2 r k) = D.q (chunk s c) r k
  k : ∀ c r k, L.k h c (ix2 r k) = D.k (chunk s c) r k
  v : ∀ c r d, L.v h c (ix2 r d) = D.v (chunk s c) r d
  g : ∀ c r k, ∃ x : ℝ, logit L h (ix2 (row c r) k) = (x : EReal) ∧ D.g (chunk s c) r k = logGate x

variable {L : Loads Ideal} {h : Fin 2} {D : Head} {s : Fin 8} (H : Fits L h D s) (c : Fin 16)

/-- The lower triangle's comparison of two row numbers. -/
theorem sge_iff (r k : Fin 64) : IntOp.cmpi .sge (BitVec.ofNat 32 r.val) (BitVec.ofNat 32 k.val) = BitVec.ofBool (decide (k.val ≤ r.val)) := by
  revert r k
  decide

/-- The mask is one on and below the diagonal. -/
theorem mask_apply (r k : Fin 64) : mask (ix2 r k) = BitVec.ofBool (decide (k.val ≤ r.val)) := by
  pointwise [mask]
  exact sge_iff r k

/-- Selecting by a decided proposition is an `if`. -/
theorem select_ofBool {α : Type} (p : Prop) [Decidable p] (a b : α) : Scalar.select (BitVec.ofBool (decide p)) a b = if p then a else b := by
  by_cases hp : p
  · simp [hp, Scalar.select]
  · simp [hp, Scalar.select]

/-- The triangle of ones, entry by entry. -/
theorem tri_apply (r k : Fin 64) : tri (F := Ideal) (ix2 r k) = if k.val ≤ r.val then 1 else 0 := by
  pointwise [tri, mask]
  rw [sge_iff, select_ofBool]

include H in
/-- The gate's logarithm is the model's. -/
theorem gate_apply (r k : Fin 64) : gate L h (ix2 (row c r) k) = ((D.g (chunk s c) r k : ℝ) : EReal) := by
  obtain ⟨x, hx, hg⟩ := H.g c r k
  pointwise [gate]
  rw [hx, Ideal.absf_def, gate_kernel, hg]

include H in
/-- The two triangular products add up to the model's running sum. -/
theorem cum_apply (r k : Fin 64) : cum L h c (ix2 r k) = ((D.sum (chunk s c) r k : ℝ) : EReal) := by
  pointwise [cum, gateHi, gateLo]
  have e : ∀ x : Fin 64, (⟨64 * c.val + x.val, by omega⟩ : Fin 1024) = row c x := fun x => rfl
  simp only [e, gate_apply H, tri_apply]
  unfold Head.sum
  rw [coe_sum, ← Finset.sum_add_distrib]
  refine Finset.sum_congr rfl fun j _ => ?_
  rw [← EReal.coe_sub, sub_self]
  by_cases hj : j.val ≤ r.val
  · rw [if_pos hj, if_pos hj, one_mul, one_mul, EReal.coe_zero, add_zero]
  · rw [if_neg hj, if_neg hj, zero_mul, zero_mul, add_zero, EReal.coe_zero]

include H in
/-- The middle row of the running sum. -/
theorem mid_apply (k : Fin 64) : mid L h c (ix2 0 k) = ((D.sum (chunk s c) 31 k : ℝ) : EReal) := by
  pointwise [mid]
  exact cum_apply H c 31 k

include H in
/-- The last row of the running sum. -/
theorem fin_apply (k : Fin 64) : fin L h c (ix2 0 k) = ((D.sum (chunk s c) 63 k : ℝ) : EReal) := by
  pointwise [fin]
  exact cum_apply H c 63 k

include H in
/-- Masked scores are the model's. -/
theorem score_apply (i j : Fin 64) : (if j.val ≤ i.val then sc L h c (ix2 i j) else 0) = D.score (chunk s c) i j := by
  unfold Head.score
  refine if_congr Iff.rfl ?_ rfl
  pointwise [sc, qt, kt]
  refine Finset.sum_congr rfl fun k _ => ?_
  rw [H.q, H.k, mid_apply H, cum_apply H, cum_apply H]
  exact rebase_score _ _ _ _ _ _

include H in
/-- The part of an item's output that comes from its own chunk. -/
theorem intra_apply (i : Fin 64) (d : Fin 128) :
    intra L h c (ix2 i d) = ∑ j : Fin 64, D.score (chunk s c) i j * D.v (chunk s c) j d := by
  pointwise [intra]
  refine Finset.sum_congr rfl fun j _ => ?_
  rw [mask_apply, select_ofBool, H.v, ← score_apply H]
  by_cases hj : j.val ≤ i.val
  · rw [if_pos hj, if_pos hj]
  · rw [if_neg hj, if_neg hj, zero_mul]

include H in
/-- The keys decayed to the end of the chunk. -/
theorem kd_apply (j k : Fin 64) : kd L h c (ix2 j k)
    = D.k (chunk s c) j k * ((Real.exp (D.sum (chunk s c) 63 k - D.sum (chunk s c) j k) : ℝ) : EReal) := by
  pointwise [kd, kt]
  rw [H.k, mid_apply H, cum_apply H, fin_apply H]
  exact rebase_key _ _ _ _

include H in
/-- The queries decayed from the start of the chunk. -/
theorem qg_apply (i k : Fin 64) : qg L h c (ix2 i k)
    = (D.q (chunk s c) i k * scale) * ((Real.exp (D.sum (chunk s c) i k) : ℝ) : EReal) := by
  pointwise [qg, qt]
  rw [H.q, mid_apply H, cum_apply H]
  exact rebase_query _ _ _ _

/-- The block's launch starts from the model's state. -/
def Starts (D : Head) (s : Fin 8) (s0 : Vec Ideal S1x128x64 .f32) : Prop :=
  ∀ d k, s0 (ix3 0 d k) = D.state (16 * s.val) (by omega) d k

include H in
/-- The state after `n` of the block's chunks. -/
theorem st_apply {s0 : Vec Ideal S1x128x64 .f32} (hs : Starts D s s0) (n : ℕ) (hn : n ≤ 16) (d : Fin 128) (k : Fin 64) :
    st L h s0 n hn (ix2 d k) = D.state (16 * s.val + n) (by omega) d k := by
  induction n with
  | zero =>
    pointwise [st]
    exact hs d k
  | succ n ih =>
    have e : chunk s ⟨n, hn⟩ = ⟨16 * s.val + n, by omega⟩ := rfl
    show st L h s0 (n + 1) hn (ix2 d k) = D.state (16 * s.val + n + 1) _ d k
    pointwise [st, dec, kv]
    rw [ih, fin_apply H, Ideal.exp_coe, e]
    rw [Head.state_succ]
    congr 1
    refine Finset.sum_congr rfl fun j _ => ?_
    rw [H.v, kd_apply H, e]

include H in
/-- An item's output before the norm is the model's mixed output. -/
theorem mix_apply {s0 : Vec Ideal S1x128x64 .f32} (hs : Starts D s s0) (i : Fin 64) (d : Fin 128) :
    mix L h c s0 (ix2 i d) = D.mixed (chunk s c) i d := by
  pointwise [mix, inter]
  rw [intra_apply H]
  unfold Head.mixed
  refine congrArg _ (Finset.sum_congr rfl fun k _ => ?_)
  rw [qg_apply H, st_apply H hs]
  rfl

include H in
/-- What the body stores at row `i` of chunk `c`. -/
theorem out_apply {s0 : Vec Ideal S1x128x64 .f32} (hs : Starts D s s0) (i : Fin 64) (d : Fin 128) :
    out L h c s0 (ix2 i d) = finish (D.mixed (chunk s c) i) (fun d => L.gn (ix2 0 d)) (L.gr h c (ix2 i d)) d := by
  pointwise [out]
  simp only [mix_apply H c hs]
  rfl

include H in
/-- What the body leaves as the state. -/
theorem stOut_apply {s0 : Vec Ideal S1x128x64 .f32} (hs : Starts D s s0) (d : Fin 128) (k : Fin 64) :
    stOut L h s0 (ix3 0 d k) = D.state (16 * s.val + 16) (by omega) d k := by
  pointwise [stOut]
  exact st_apply H hs 16 _ d k

end Cert.Gla
end
-- ==== Proof.Problem.lean ====
/-
The whole call over the extended reals: 4 sequences of 8192 rows, 8 heads.  `headOf` cuts one head of one sequence out of
the projected activations `z` (queries, keys, values, output gates side by side), the gate inputs `zs`, the gate weights
`w` and the gate bias `b`; `resultAt` is the entry of the result the model gives.
-/
module

public import proofs.«01_k».proof.Proof.Model

@[expose] public section

noncomputable section
namespace Cert.Gla

open Idealize.ShloMosaic

/-- The projected activations. -/
abbrev ArrZ : Type := (⟨2, ![32768, 3072]⟩ : Shape).Idx → EReal
/-- The gate inputs, in the first 16 columns. -/
abbrev ArrZs : Type := (⟨2, ![32768, 128]⟩ : Shape).Idx → EReal
/-- The gate weights. -/
abbrev ArrW : Type := (⟨2, ![16, 512]⟩ : Shape).Idx → EReal
/-- The gate bias. -/
abbrev ArrB : Type := (⟨1, ![512]⟩ : Shape).Idx → EReal
/-- The norm's weight. -/
abbrev ArrG : Type := (⟨1, ![128]⟩ : Shape).Idx → EReal

/-- Row `r` of chunk `n` of sequence `B` among all rows. -/
def rowAt (B : Fin 4) (n : Fin 128) (r : Fin 64) : Fin 32768 := ⟨8192 * B.val + 64 * n.val + r.val, by omega⟩

/-- The column of head `H`'s entry `k` among 8 heads of 64. -/
def headCol (H : Fin 8) (k : Fin 64) : Fin 512 := ⟨64 * H.val + k.val, by omega⟩

/-- The gate's logit at row `t` and column `j`. -/
def logitAt (zs : ArrZs) (w : ArrW) (b : ArrB) (t : Fin 32768) (j : Fin 512) : EReal :=
  (∑ p : Fin 16, zs (ix2 t (⟨p.val, by omega⟩ : Fin 128)) * w (ix2 p j)) + b (ix1 j)

/-- One head of one sequence. -/
def headOf (z : ArrZ) (zs : ArrZs) (w : ArrW) (b : ArrB) (B : Fin 4) (H : Fin 8) : Head where
  q := fun n r k => z (ix2 (rowAt B n r) (⟨64 * H.val + k.val, by omega⟩ : Fin 3072))
  k := fun n r k => z (ix2 (rowAt B n r) (⟨512 + 64 * H.val + k.val, by omega⟩ : Fin 3072))
  v := fun n r d => z (ix2 (rowAt B n r) (⟨1024 + 128 * H.val + d.val, by omega⟩ : Fin 3072))
  g := fun n r k => logGate (logitAt zs w b (rowAt B n r) (headCol H k)).toReal

/-- The result's entry at row `i` of chunk `n` of sequence `B`, column `d` of head `H`. -/
def resultAt (z : ArrZ) (zs : ArrZs) (w : ArrW) (b : ArrB) (gn : ArrG) (B : Fin 4) (n : Fin 128) (i : Fin 64) (H : Fin 8) (d : Fin 128) : EReal :=
  finish ((headOf z zs w b B H).mixed n i) (fun d => gn (ix1 d))
    (z (ix2 (rowAt B n i) (⟨2048 + 128 * H.val + d.val, by omega⟩ : Fin 3072))) d

/-- The result array. -/
def result (z : ArrZ) (zs : ArrZs) (w : ArrW) (b : ArrB) (gn : ArrG) : (⟨2, ![32768, 1024]⟩ : Shape).Idx → EReal := fun x =>
  resultAt z zs w b gn (⟨(x 0).val / 8192, Nat.div_lt_of_lt_mul (x 0).isLt⟩)
    (⟨(x 0).val % 8192 / 64, Nat.div_lt_of_lt_mul (Nat.mod_lt _ (by omega))⟩) (⟨(x 0).val % 64, Nat.mod_lt _ (by omega)⟩)
    (⟨(x 1).val / 128, Nat.div_lt_of_lt_mul (x 1).isLt⟩) (⟨(x 1).val % 128, Nat.mod_lt _ (by omega)⟩)

/-- An entry of the result by its sequence, chunk, row, head and column. -/
theorem result_of (z : ArrZ) (zs : ArrZs) (w : ArrW) (b : ArrB) (gn : ArrG) (x : (⟨2, ![32768, 1024]⟩ : Shape).Idx)
    (B : Fin 4) (n : Fin 128) (i : Fin 64) (H : Fin 8) (d : Fin 128)
    (h0 : (x 0).val = 8192 * B.val + 64 * n.val + i.val) (h1 : (x 1).val = 128 * H.val + d.val) :
    result z zs w b gn x = resultAt z zs w b gn B n i H d := by
  unfold result
  congr 1
  all_goals exact Fin.ext (by dsimp only; omega)

/-- An extended real that is a real number. -/
def Finite (x : EReal) : Prop := ∃ r : ℝ, x = (r : EReal)

/-- A product of finite values is finite. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- A sum of two finite values is finite. -/
theorem Finite.add {x y : EReal} (hx : Finite x) (hy : Finite y) : Finite (x + y) := by
  obtain ⟨a, rfl⟩ := hx
  obtain ⟨b, rfl⟩ := hy
  exact ⟨a + b, (EReal.coe_add a b).symm⟩

/-- A sum of finitely many finite values is finite. -/
theorem Finite.sum {ι : Type} (s : Finset ι) (f : ι → EReal) (hf : ∀ i, Finite (f i)) : Finite (∑ i ∈ s, f i) := by
  choose r hr using hf
  exact ⟨∑ i ∈ s, r i, by rw [coe_sum]; exact Finset.sum_congr rfl fun i _ => hr i⟩

/-- Gate inputs, gate weights and gate bias are real numbers. -/
structure FiniteGates (zs : ArrZs) (w : ArrW) (b : ArrB) : Prop where
  zs : ∀ (t : Fin 32768) (p : Fin 16), Finite (zs (ix2 t (⟨p.val, by omega⟩ : Fin 128)))
  w : ∀ (p : Fin 16) (j : Fin 512), Finite (w (ix2 p j))
  b : ∀ j : Fin 512, Finite (b (ix1 j))

/-- Then every logit is a real number. -/
theorem FiniteGates.logit {zs : ArrZs} {w : ArrW} {b : ArrB} (hf : FiniteGates zs w b) (t : Fin 32768) (j : Fin 512) :
    logitAt zs w b t j = ((logitAt zs w b t j).toReal : EReal) := by
  obtain ⟨r, hr⟩ : Finite (logitAt zs w b t j) :=
    (Finite.sum _ _ fun p => (hf.zs t p).mul (hf.w p j)).add (hf.b j)
  rw [hr, EReal.toReal_coe]

end Cert.Gla
end
-- ==== Proof.Blocks.lean ====
/-
Where a launch's blocks lie: grid point `t` is sequence `t / 32`, head pair `t / 8 % 4`, block `t % 8`, and what the
launch loads is that part of the arguments.
-/
module

public import proofs.«01_k».proof.Proof.ItemValues
public import proofs.«01_k».proof.Proof.Problem
public import Idealize.ShloMosaic.Lib.Pipeline.ValueKit
public import Idealize.ShloMosaic.Lib.Claim

@[expose] public section
set_option maxRecDepth 100000

noncomputable section
namespace Cert.Gla

open Cert.KernelIdeal Cert.KernelIdeal.Gen Idealize.ShloMosaic Idealize.ShloMosaic.TcCoe Idealize.SL.Sem

/-- The block every window stages at grid point `t`. -/
theorem idx (t : Fin cfg0.N) :
    win0_0.index t = ![t.val / 32 * 8 + t.val % 8, t.val / 8 % 4] ∧ win0_1.index t = ![t.val / 32 * 8 + t.val % 8, 4 + t.val / 8 % 4]
    ∧ win0_2.index t = ![t.val / 32 * 8 + t.val % 8, 4 + t.val / 8 % 4] ∧ win0_3.index t = ![t.val / 32 * 8 + t.val % 8, 8 + t.val / 8 % 4]
    ∧ win0_4.index t = ![t.val / 32 * 8 + t.val % 8, 0] ∧ win0_5.index t = ![t.val / 8 % 4, 0, 0]
    ∧ win0_6.index t = ![t.val / 8 % 4, 0, 0] ∧ win0_7.index t = ![0, 0]
    ∧ win0_8.index t = ![t.val / 32 * 8 + t.val % 8, t.val / 8 % 4] := by
  revert t
  decide +kernel

variable (m : (ℓ : Loc nD τ sig) → Buf (Elt Ideal) ℓ) (c : Dev nD)

/-- The arguments on device `c`. -/
def argZ : ArrZ := m ((c : Thread nD τ).loc main_arg0)
/-- The small projection. -/
def argZs : ArrZs := m ((c : Thread nD τ).loc main_arg1)
/-- The gate weights. -/
def argW : ArrW := m ((c : Thread nD τ).loc main_arg2)
/-- The gate bias. -/
def argB : ArrB := m ((c : Thread nD τ).loc main_arg3)
/-- The norm weight. -/
def argG : ArrG := m ((c : Thread nD τ).loc main_arg4)

/-- There are 128 launches. -/
theorem lt_N (t : Fin cfg0.N) : t.val < 128 := lt_of_lt_of_eq t.isLt N_0

/-- The sequence of grid point `t`. -/
def seqOf (t : Fin cfg0.N) : Fin 4 := ⟨t.val / 32, by have := lt_N t; omega⟩
/-- Head `h` of grid point `t`'s pair. -/
def headNo (t : Fin cfg0.N) (h : Fin 2) : Fin 8 := ⟨2 * (t.val / 8 % 4) + h.val, by omega⟩
/-- The block of grid point `t` within its sequence. -/
def blkOf (t : Fin cfg0.N) : Fin 8 := ⟨t.val % 8, by omega⟩

/-- What the launch at `t` loads. -/
def loadsAt (t : Fin cfg0.N) : Loads Ideal :=
  blockLoads (iblk m c 0 t) (iblk m c 1 t) (iblk m c 2 t) (iblk m c 3 t) (iblk m c 4 t) (iblk m c 5 t) (iblk m c 6 t) (iblk m c 7 t)

/-- The queries a launch loads. -/
theorem q_at (t : Fin cfg0.N) (h : Fin 2) (n : Fin 16) (r k : Fin 64) :
    (loadsAt m c t).q h n (ix2 r k) = (headOf (argZ m c) (argZs m c) (argW m c) (argB m c) (seqOf t) (headNo t h)).q (chunk (blkOf t) n) r k := by
  have hN := lt_N t
  obtain ⟨e0, e1, e2, e3, e4, e5, e6, e7, e8⟩ := idx t
  pointwise [loadsAt, blockLoads, headOf, argZ]
  blk_ext [iblk, V_main_arg0, e0, rowAt, chunk, seqOf, headNo, blkOf]

/-- The keys a launch loads. -/
theorem k_at (t : Fin cfg0.N) (h : Fin 2) (n : Fin 16) (r k : Fin 64) :
    (loadsAt m c t).k h n (ix2 r k) = (headOf (argZ m c) (argZs m c) (argW m c) (argB m c) (seqOf t) (headNo t h)).k (chunk (blkOf t) n) r k := by
  have hN := lt_N t
  obtain ⟨e0, e1, e2, e3, e4, e5, e6, e7, e8⟩ := idx t
  pointwise [loadsAt, blockLoads, headOf, argZ]
  blk_ext [iblk, V_main_arg0, e1, rowAt, chunk, seqOf, headNo, blkOf]

/-- The values a launch loads. -/
theorem v_at (t : Fin cfg0.N) (h : Fin 2) (n : Fin 16) (r : Fin 64) (d : Fin 128) :
    (loadsAt m c t).v h n (ix2 r d) = (headOf (argZ m c) (argZs m c) (argW m c) (argB m c) (seqOf t) (headNo t h)).v (chunk (blkOf t) n) r d := by
  have hN := lt_N t
  obtain ⟨e0, e1, e2, e3, e4, e5, e6, e7, e8⟩ := idx t
  pointwise [loadsAt, blockLoads, headOf, argZ]
  blk_ext [iblk, V_main_arg0, e2, rowAt, chunk, seqOf, headNo, blkOf]

/-- The output gates a launch loads. -/
theorem gr_at (t : Fin cfg0.N) (h : Fin 2) (n : Fin 16) (r : Fin 64) (d : Fin 128) :
    (loadsAt m c t).gr h n (ix2 r d)
      = argZ m c (ix2 (rowAt (seqOf t) (chunk (blkOf t) n) r) (⟨2048 + 128 * (headNo t h).val + d.val, by omega⟩ : Fin 3072)) := by
  have hN := lt_N t
  obtain ⟨e0, e1, e2, e3, e4, e5, e6, e7, e8⟩ := idx t
  pointwise [loadsAt, blockLoads, argZ]
  blk_ext [iblk, V_main_arg0, e3, rowAt, chunk, seqOf, headNo, blkOf]

/-- The gate inputs a launch loads. -/
theorem zs_at (t : Fin cfg0.N) (n : Fin 16) (r : Fin 64) (p : Fin 16) :
    (loadsAt m c t).zs (ix2 (row n r) p)
      = argZs m c (ix2 (rowAt (seqOf t) (chunk (blkOf t) n) r) (⟨p.val, by omega⟩ : Fin 128)) := by
  have hN := lt_N t
  obtain ⟨e0, e1, e2, e3, e4, e5, e6, e7, e8⟩ := idx t
  pointwise [loadsAt, blockLoads, argZs]
  blk_ext [iblk, V_main_arg1, e4, rowAt, chunk, seqOf, blkOf, row]

/-- The gate weights a launch loads. -/
theorem wa_at (t : Fin cfg0.N) (h : Fin 2) (p : Fin 16) (k : Fin 64) :
    (loadsAt m c t).wa h (ix3 0 p k) = argW m c (ix2 p (headCol (headNo t h) k)) := by
  have hN := lt_N t
  obtain ⟨e0, e1, e2, e3, e4, e5, e6, e7, e8⟩ := idx t
  have he : (win0_5.blk t).view.emb (ix3 h p k) = ix3 (headNo t h) p k := by blk_ext [e5, headNo]
  have hv : V m c main_v2 (ix3 (headNo t h) p k) = argW m c (ix2 p (headCol (headNo t h) k)) := by
    entry_read
    pointwise [argW]
    blk_ext [headCol]
  pointwise [loadsAt, blockLoads]
  exact (congrArg (V m c main_v2) he).trans hv

/-- The gate bias a launch loads. -/
theorem ba_at (t : Fin cfg0.N) (h : Fin 2) (k : Fin 64) :
    (loadsAt m c t).ba h (ix3 0 0 k) = argB m c (ix1 (headCol (headNo t h) k)) := by
  have hN := lt_N t
  obtain ⟨e0, e1, e2, e3, e4, e5, e6, e7, e8⟩ := idx t
  have he : (win0_6.blk t).view.emb (ix3 h 0 k) = ix3 (headNo t h) 0 k := by blk_ext [e6, headNo]
  have hv : V m c main_v3 (ix3 (headNo t h) 0 k) = argB m c (ix1 (headCol (headNo t h) k)) := by
    entry_read
    pointwise [argB]
    blk_ext [headCol]
  pointwise [loadsAt, blockLoads]
  exact (congrArg (V m c main_v3) he).trans hv

/-- The norm weight a launch loads. -/
theorem gn_at (t : Fin cfg0.N) (d : Fin 128) :
    (loadsAt m c t).gn (ix2 0 d) = argG m c (ix1 d) := by
  have hN := lt_N t
  obtain ⟨e0, e1, e2, e3, e4, e5, e6, e7, e8⟩ := idx t
  have he : (win0_7.blk t).view.emb (ix2 0 d) = ix2 0 d := by blk_ext [e7]
  have hv : V m c main_v4 (ix2 0 d) = argG m c (ix1 d) := by
    entry_read
    pointwise [argG]
  pointwise [loadsAt, blockLoads]
  exact (congrArg (V m c main_v4) he).trans hv

end Cert.Gla
end
-- ==== Proof.Launches.lean ====
/-
What a launch leaves in its output block and in the carried state, as functions of the items it loads.
-/
module

public import proofs.«01_k».proof.Proof.Stores
public import proofs.«01_k».proof.Proof.Gen.KernelIdeal.Value

@[expose] public section
set_option maxRecDepth 100000

noncomputable section
namespace Cert.Gla

open Cert.KernelIdeal Cert.KernelIdeal.Gen Idealize.ShloMosaic Idealize.ShloMosaic.TcCoe Idealize.SL.Sem

variable {F : FTy → Type} [FloatOps F]

/-- The output block a launch leaves. -/
@[irreducible] def blockOf (L : Loads F) (s0 : Fin 2 → Vec F S1x128x64 .f32) : Vec F S1024x256 .bf16 :=
  VO0_8.read (Elt F) (VO0_8.writes (Elt F) VO0_8.junk (headPieces L 1 s0 ++ headPieces L 0 s0))

/-- The carried state a launch leaves. -/
@[irreducible] def carryOf (L : Loads F) (s0 : Fin 2 → Vec F S1x128x64 .f32) (rest : List (View.Piece (Elt F) S2x128x64 .f32)) :
    Vec F S2x128x64 .f32 :=
  VS0_0.read (Elt F) (VS0_0.writes (Elt F) VS0_0.junk (stPieces L s0 ++ rest))

/-- The output block read at one entry. -/
theorem blockOf_apply (L : Loads F) (s0 : Fin 2 → Vec F S1x128x64 .f32) (h : Fin 2) (n : Fin 16) (r : Fin 64) (d : Fin 128) :
    blockOf L s0 (ix2 (⟨64 * n.val + r.val, by omega⟩ : Fin 1024) (⟨128 * h.val + d.val, by omega⟩ : Fin 256))
      = out L h n (s0 h) (ix2 r d) := by
  unfold blockOf
  exact read_out VO0_8 _ L s0 h n r d

/-- The carried state read at one entry. -/
theorem carryOf_apply (L : Loads F) (s0 : Fin 2 → Vec F S1x128x64 .f32) (rest : List (View.Piece (Elt F) S2x128x64 .f32))
    (h : Fin 2) (d : Fin 128) (k : Fin 64) : carryOf L s0 rest (ix3 h d k) = stOut L h (s0 h) (ix3 0 d k) := by
  unfold carryOf
  exact read_state VS0_0 _ L s0 rest h d k

variable (c : Dev nD) (i : grid0.Coords)
  (arg3 : Memref sig .tc .vmem S1024x128 .bf16) (harg3 : arg3.IsWhole) (arg4 : Memref sig .tc .vmem S1024x128 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S1024x128 .f32) (harg7 : arg7.IsWhole) (arg8 : Memref sig .tc .vmem S2x16x64 .bf16) (harg8 : arg8.IsWhole)
  (arg9 : Memref sig .tc .vmem S2x1x64 .f32) (harg9 : arg9.IsWhole) (arg10 : Memref sig .tc .vmem S1x128 .f32) (harg10 : arg10.IsWhole)
  (arg11 : Memref sig .tc .vmem S1024x256 .bf16) (harg11 : arg11.IsWhole) (arg12 : Memref sig .tc .vmem S2x128x64 .f32) (harg12 : arg12.IsWhole)
  (x0 : Vec F S1024x128 .bf16) (x1 : Vec F S1024x128 .bf16) (x2 : Vec F S1024x256 .bf16) (x3 : Vec F S1024x256 .bf16)
  (x4 : Vec F S1024x128 .f32) (x5 : Vec F S2x16x64 .bf16) (x6 : Vec F S2x1x64 .f32) (x7 : Vec F S1x128 .f32) (xs0 : Vec F S2x128x64 .f32)

/-- A case-A launch's output block. -/
theorem out_A (hc0 : cond0_0 i) : out0_A_8 c i arg3 harg3 arg4 harg4 arg5 harg5 arg6 harg6 arg7 harg7 arg8 harg8 arg9 harg9 arg10 harg10 arg11 harg11 arg12 harg12 hc0 x0 x1 x2 x3 x4 x5 x6 x7
    = blockOf (blockLoads x0 x1 x2 x3 x4 x5 x6 x7) (zeroState arg12 (blockLoads x0 x1 x2 x3 x4 x5 x6 x7)) := by
  unfold out0_A_8 blockOf
  rw [outA, rawLoads_eq]

/-- A case-A launch's carried state. -/
theorem carry_A (hc0 : cond0_0 i) : sout0_A_0 c i arg3 harg3 arg4 harg4 arg5 harg5 arg6 harg6 arg7 harg7 arg8 harg8 arg9 harg9 arg10 harg10 arg11 harg11 arg12 harg12 hc0 x0 x1 x2 x3 x4 x5 x6 x7
    = carryOf (blockLoads x0 x1 x2 x3 x4 x5 x6 x7) (zeroState arg12 (blockLoads x0 x1 x2 x3 x4 x5 x6 x7)) [zeroPiece] := by
  unfold sout0_A_0 carryOf
  rw [stateA, rawLoads_eq]

/-- A case-B launch's output block. -/
theorem out_B (hc0 : ¬cond0_0 i) : out0_B_8 c i arg3 harg3 arg4 harg4 arg5 harg5 arg6 harg6 arg7 harg7 arg8 harg8 arg9 harg9 arg10 harg10 arg11 harg11 arg12 harg12 hc0 x0 x1 x2 x3 x4 x5 x6 x7 xs0
    = blockOf (blockLoads x0 x1 x2 x3 x4 x5 x6 x7) (fun h => View.ld xs0 (rst h)) := by
  unfold out0_B_8 blockOf
  rw [outB, rawLoads_eq, rawState_eq]

/-- A case-B launch's carried state. -/
theorem carry_B (hc0 : ¬cond0_0 i) : sout0_B_0 c i arg3 harg3 arg4 harg4 arg5 harg5 arg6 harg6 arg7 harg7 arg8 harg8 arg9 harg9 arg10 harg10 arg11 harg11 arg12 harg12 hc0 x0 x1 x2 x3 x4 x5 x6 x7 xs0
    = carryOf (blockLoads x0 x1 x2 x3 x4 x5 x6 x7) (fun h => View.ld xs0 (rst h)) [] := by
  unfold sout0_B_0 carryOf
  rw [stateB, rawLoads_eq, rawState_eq, List.append_nil]

end Cert.Gla
end
-- ==== Proof.KernelValue.lean ====
/-
The kernel's result array is the model's: by induction over the grid, the state carried out of each launch is the
model's state after the chunks so far, and each block written back holds the model's outputs.
-/
module

public import proofs.«01_k».proof.Proof.Blocks
public import proofs.«01_k».proof.Proof.Launches

@[expose] public section
set_option maxRecDepth 100000

noncomputable section
namespace Cert.Gla

open Cert.KernelIdeal Cert.KernelIdeal.Gen Idealize.ShloMosaic Idealize.ShloMosaic.TcCoe Idealize.SL.Sem

variable (m : (ℓ : Loc nD τ sig) → Buf (Elt Ideal) ℓ) (c : Dev nD)

/-- The head that half `h` of grid point `t` works on. -/
abbrev headAt (t : Fin cfg0.N) (h : Fin 2) : Head :=
  headOf (argZ m c) (argZs m c) (argW m c) (argB m c) (seqOf t) (headNo t h)

/-- The gates' logits at a launch are the problem's. -/
theorem logit_at (t : Fin cfg0.N) (h : Fin 2) (n : Fin 16) (r k : Fin 64) :
    logit (loadsAt m c t) h (ix2 (row n r) k)
      = logitAt (argZs m c) (argW m c) (argB m c) (rowAt (seqOf t) (chunk (blkOf t) n) r) (headCol (headNo t h) k) := by
  pointwise [logit]
  rw [ba_at]
  unfold logitAt
  refine congrArg (· + _) (Finset.sum_congr rfl fun p _ => ?_)
  rw [zs_at, wa_at]

/-- What a launch loads is its block of its head. -/
theorem fits (hf : FiniteGates (argZs m c) (argW m c) (argB m c)) (t : Fin cfg0.N) (h : Fin 2) :
    Fits (loadsAt m c t) h (headAt m c t h) (blkOf t) where
  q := q_at m c t h
  k := k_at m c t h
  v := v_at m c t h
  g := fun n r k => ⟨_, (logit_at m c t h n r k).trans (hf.logit _ _), rfl⟩

/-- The state a launch in case A starts from. -/
abbrev startA (t : Fin cfg0.N) : Fin 2 → Vec Ideal S1x128x64 .f32 := zeroState scM0_0 (loadsAt m c t)
/-- The state a launch in case B starts from. -/
abbrev startB (t : Fin cfg0.N) : Fin 2 → Vec Ideal S1x128x64 .f32 :=
  fun h => View.ld (outsAt0 m c (t.val - 1) (Nat.lt_of_le_of_lt (Nat.sub_le _ _) t.isLt)).2 (rst h)

/-- What a launch in case A leaves. -/
theorem block_A (t : Fin cfg0.N) (h0 : t.val % 8 = 0) :
    (outsAt0 m c t.val t.isLt).1 = blockOf (loadsAt m c t) (startA m c t) := by
  rw [outsAt0_A m c t h0]
  dsimp only
  rw [out_A]
  rfl

/-- A launch that opens a sequence starts its carried state from zero. -/
theorem state_A (t : Fin cfg0.N) (h0 : t.val % 8 = 0) :
    (outsAt0 m c t.val t.isLt).2 = carryOf (loadsAt m c t) (startA m c t) [zeroPiece] := by
  rw [outsAt0_A m c t h0]
  dsimp only
  rw [carry_A]
  rfl

/-- What a launch in case B leaves. -/
theorem block_B (t : Fin cfg0.N) (h0 : ¬t.val % 8 = 0) :
    (outsAt0 m c t.val t.isLt).1 = blockOf (loadsAt m c t) (startB m c t) := by
  rw [outsAt0_B m c t h0]
  dsimp only
  rw [out_B]
  rfl

/-- Any other launch takes the carried state its predecessor left. -/
theorem state_B (t : Fin cfg0.N) (h0 : ¬t.val % 8 = 0) :
    (outsAt0 m c t.val t.isLt).2 = carryOf (loadsAt m c t) (startB m c t) [] := by
  rw [outsAt0_B m c t h0]
  dsimp only
  rw [carry_B]
  rfl

variable (hf : FiniteGates (argZs m c) (argW m c) (argB m c))

/-- The zero state is the model's state before the first chunk. -/
theorem starts_A (t : Fin cfg0.N) (h0 : t.val % 8 = 0) (h : Fin 2) : Starts (headAt m c t h) (blkOf t) (startA m c t h) := by
  intro d k
  have e : 16 * (blkOf t).val = 0 := by show 16 * (t.val % 8) = 0; omega
  have : ∀ (n : ℕ) (hn : n ≤ 128), n = 0 → (0 : EReal) = (headAt m c t h).state n hn d k := by
    rintro n hn rfl
    rfl
  exact (zeroState_apply scM0_0 _ h d k).trans ((Ideal.ofBits_zero_f32).trans (this _ _ e))

include hf in
/-- The state after every launch. -/
theorem state_at (n : ℕ) (hn : n < cfg0.N) (h : Fin 2) (d : Fin 128) (k : Fin 64) :
    (outsAt0 m c n hn).2 (ix3 h d k)
      = (headAt m c ⟨n, hn⟩ h).state (16 * (blkOf ⟨n, hn⟩).val + 16) (by omega) d k := by
  induction n generalizing h d k with
  | zero =>
    refine (congrFun (state_A m c ⟨0, hn⟩ rfl) (ix3 h d k)).trans ((carryOf_apply _ _ _ h d k).trans ?_)
    exact stOut_apply (fits m c hf ⟨0, hn⟩ h) (starts_A m c ⟨0, hn⟩ rfl h) d k
  | succ n ih =>
    by_cases h0 : (n + 1) % 8 = 0
    · refine (congrFun (state_A m c ⟨n + 1, hn⟩ h0) (ix3 h d k)).trans ((carryOf_apply _ _ _ h d k).trans ?_)
      exact stOut_apply (fits m c hf ⟨n + 1, hn⟩ h) (starts_A m c ⟨n + 1, hn⟩ h0 h) d k
    · refine (congrFun (state_B m c ⟨n + 1, hn⟩ h0) (ix3 h d k)).trans ((carryOf_apply _ _ _ h d k).trans ?_)
      refine stOut_apply (fits m c hf ⟨n + 1, hn⟩ h) (fun d k => ?_) d k
      show View.ld (outsAt0 m c n _).2 (rst h) (ix3 0 d k) = _
      unfold View.ld
      rw [rst_idx, ih]
      have e1 : seqOf ⟨n, Nat.lt_of_succ_lt hn⟩ = seqOf ⟨n + 1, hn⟩ := Fin.ext (by show n / 32 = (n + 1) / 32; omega)
      have e2 : headNo ⟨n, Nat.lt_of_succ_lt hn⟩ h = headNo ⟨n + 1, hn⟩ h :=
        Fin.ext (by show 2 * (n / 8 % 4) + h.val = 2 * ((n + 1) / 8 % 4) + h.val; omega)
      have e3 : 16 * (blkOf ⟨n, Nat.lt_of_succ_lt hn⟩).val + 16 = 16 * (blkOf ⟨n + 1, hn⟩).val := by
        show 16 * (n % 8) + 16 = 16 * ((n + 1) % 8); omega
      have e4 : headAt m c ⟨n, Nat.lt_of_succ_lt hn⟩ h = headAt m c ⟨n + 1, hn⟩ h := by
        unfold headAt; rw [e1, e2]
      rw [e4]
      have : ∀ (a b : ℕ) (ha : a ≤ 128) (hb : b ≤ 128), a = b →
          (headAt m c ⟨n + 1, hn⟩ h).state a ha d k = (headAt m c ⟨n + 1, hn⟩ h).state b hb d k := by
        rintro a b ha hb rfl
        rfl
      exact this _ _ _ _ e3

include hf in
/-- The state a case-B launch starts from is the model's. -/
theorem starts_B (t : Fin cfg0.N) (h0 : ¬t.val % 8 = 0) (h : Fin 2) : Starts (headAt m c t h) (blkOf t) (startB m c t h) := by
  intro d k
  obtain ⟨n, hn⟩ := t
  cases n with
  | zero => exact absurd rfl h0
  | succ n =>
    show View.ld (outsAt0 m c n _).2 (rst h) (ix3 0 d k) = _
    unfold View.ld
    rw [rst_idx, state_at m c hf]
    have e1 : seqOf ⟨n, Nat.lt_of_succ_lt hn⟩ = seqOf ⟨n + 1, hn⟩ := Fin.ext (by
      change ¬(n + 1) % 8 = 0 at h0
      show n / 32 = (n + 1) / 32; omega)
    have e2 : headNo ⟨n, Nat.lt_of_succ_lt hn⟩ h = headNo ⟨n + 1, hn⟩ h :=
      Fin.ext (by
        change ¬(n + 1) % 8 = 0 at h0
        show 2 * (n / 8 % 4) + h.val = 2 * ((n + 1) / 8 % 4) + h.val; omega)
    have e3 : 16 * (blkOf ⟨n, Nat.lt_of_succ_lt hn⟩).val + 16 = 16 * (blkOf ⟨n + 1, hn⟩).val := by
      change ¬(n + 1) % 8 = 0 at h0
      show 16 * (n % 8) + 16 = 16 * ((n + 1) % 8); omega
    have e4 : headAt m c ⟨n, Nat.lt_of_succ_lt hn⟩ h = headAt m c ⟨n + 1, hn⟩ h := by
      unfold headAt; rw [e1, e2]
    rw [e4]
    have : ∀ (a b : ℕ) (ha : a ≤ 128) (hb : b ≤ 128), a = b →
        (headAt m c ⟨n + 1, hn⟩ h).state a ha d k = (headAt m c ⟨n + 1, hn⟩ h).state b hb d k := by
      rintro a b ha hb rfl
      rfl
    exact this _ _ _ _ e3

/-- Column `d` of half `h` of an output block. -/
def col (h : Fin 2) (d : Fin 128) : Fin 256 := ⟨128 * h.val + d.val, by omega⟩

include hf in
/-- The output block after every launch. -/
theorem block_at (t : Fin cfg0.N) (h : Fin 2) (n : Fin 16) (r : Fin 64) (d : Fin 128) :
    (outsAt0 m c t.val t.isLt).1 (ix2 (row n r) (col h d))
      = resultAt (argZ m c) (argZs m c) (argW m c) (argB m c) (argG m c) (seqOf t) (chunk (blkOf t) n) r (headNo t h) d := by
  have key : ∀ s0, Starts (headAt m c t h) (blkOf t) s0 → out (loadsAt m c t) h n s0 (ix2 r d)
      = resultAt (argZ m c) (argZs m c) (argW m c) (argB m c) (argG m c) (seqOf t) (chunk (blkOf t) n) r (headNo t h) d := by
    intro s0 hs
    rw [out_apply (fits m c hf t h) n hs, gr_at]
    unfold resultAt
    congr 1
    funext e
    exact gn_at m c t e
  by_cases h0 : t.val % 8 = 0
  · refine (congrFun (block_A m c t h0) _).trans ?_
    exact (blockOf_apply _ _ h n r d).trans (key _ (starts_A m c t h0 h))
  · refine (congrFun (block_B m c t h0) _).trans ?_
    exact (blockOf_apply _ _ h n r d).trans (key _ (starts_B m c hf t h0 h))

end Cert.Gla
end
-- ==== Proof.KernelArray.lean ====
/-
The kernel's result array after the run, entry by entry.
-/
module

public import proofs.«01_k».proof.Proof.KernelValue
public import Idealize.ShloMosaic.Lib.Pipeline.ValueKit

@[expose] public section
set_option maxRecDepth 100000

noncomputable section
namespace Cert.Gla

open Cert.KernelIdeal Cert.KernelIdeal.Gen Idealize.ShloMosaic Idealize.ShloMosaic.TcCoe Idealize.SL.Sem

variable (m : (ℓ : Loc nD τ sig) → Buf (Elt Ideal) ℓ) (c : Dev nD)

/-- The final array is the problem's result. -/
theorem kernel_array (hf : FiniteGates (argZs m c) (argW m c) (argB m c)) :
    (dats m 0 c).arrAt 8 cfg0.N = result (argZ m c) (argZs m c) (argW m c) (argB m c) (argG m c) := by
  refine (dats m 0 c).arrAt_eq_of_covers 8 _ (by decide +kernel) fun t hfl y => ?_
  have hN := lt_N t
  blk_simp
  rw [after0_8]
  have h0 : (y 0).val < 1024 := (y 0).isLt
  have h1 : (y 1).val < 256 := (y 1).isLt
  have key := block_at m c hf t (⟨(y 1).val / 128, by omega⟩) (⟨(y 0).val / 64, by omega⟩) (⟨(y 0).val % 64, by omega⟩) (⟨(y 1).val % 128, by omega⟩)
  have hy : y = ix2 (row (⟨(y 0).val / 64, by omega⟩) (⟨(y 0).val % 64, by omega⟩)) (col (⟨(y 1).val / 128, by omega⟩) (⟨(y 1).val % 128, by omega⟩)) := by
    funext a
    fin_cases a
    · exact Fin.ext (by show (y 0).val = 64 * ((y 0).val / 64) + (y 0).val % 64; omega)
    · exact Fin.ext (by show (y 1).val = 128 * ((y 1).val / 128) + (y 1).val % 128; omega)
  obtain ⟨-, -, -, -, -, -, -, -, e⟩ := idx t
  refine (congrArg (outsAt0 m c t.val t.isLt).1 hy).trans (key.trans (result_of _ _ _ _ _ _ _ _ _ _ _ ?_ ?_).symm)
  · blk_simp [e]
    simp only [seqOf, chunk, blkOf]
    omega
  · blk_simp [e]
    simp only [headNo]
    omega

end Cert.Gla
end
-- ==== Proof.RefTrip.lean ====
/-
One trip of the reference's loop over chunks takes the model's state and outputs one chunk further.
-/
module

public import proofs.«01_k».proof.Proof.Problem
public import proofs.«01_k».proof.Proof.Gen.ReferenceIdeal.Run
public import Idealize.ShloMosaic.Lib.Pipeline.ValueKit
public import Idealize.ShloMosaic.Lib.Pointwise
public import Idealize.ShloMosaic.Lib.WordCmp
public import Idealize.ShloMosaic.Lib.Tactic.CleanTypes

@[expose] public section
set_option maxRecDepth 100000

noncomputable section
namespace Cert.Gla

open Idealize.ShloMosaic.StableHlo Cert.ReferenceIdeal Cert.ReferenceIdeal.Gen Cert.ReferenceIdeal.Value Idealize.ShloMosaic Idealize.ShloMosaic.TcCoe Idealize.SL.Sem

/-- The starting indices of chunk `n`, as the loop's counter gives them. -/
def starts (n : ℕ) : Fin 5 → Int :=
  fun k => ((![fun _ => BitVec.ofNat 32 n, constantI S_ 32 0#32, constantI S_ 32 0#32, constantI S_ 32 0#32, constantI S_ 32 0#32] : Fin 5 → IVec S_ 32) k (Shape.Idx.first h_S_)).toInt

/-- Where trip `n` starts reading: at row `n` of the leading axis. -/
theorem starts_eq (n : Fin 128) (a : Fin 5) : starts n.val a = ((![n.val, 0, 0, 0, 0] : Fin 5 → ℕ) a : Int) := by
  revert a n
  unfold starts
  decide +kernel

/-- Trip `n` reads chunk `n`, for arrays 64 wide. -/
theorem slice64 (x : FVec Ideal S128x4x64x8x64 .f32) (n : Fin 128) (B : Fin 4) (r : Fin 64) (H : Fin 8) (k : Fin 64) :
    shapeCast S4x64x8x64 (Host.dynamicSlice S1x4x64x8x64 x (starts n.val) sliceFits_S128x4x64x8x64_S1x4x64x8x64) shapeCasts_S1x4x64x8x64_S4x64x8x64 (ix4 B r H k)
      = x (ix5 n B r H k) := by
  rw [WordCmp.dynamicSlice_eq_extract S1x4x64x8x64 x (starts n.val) _ ![n.val, 0, 0, 0, 0] ⟨rfl, by intro a; fin_cases a <;> simp <;> omega⟩ (starts_eq n)]
  pointwise

/-- Trip `n` reads chunk `n`, for arrays 128 wide. -/
theorem slice128 (x : FVec Ideal S128x4x64x8x128 .f32) (n : Fin 128) (B : Fin 4) (r : Fin 64) (H : Fin 8) (k : Fin 128) :
    shapeCast S4x64x8x128 (Host.dynamicSlice S1x4x64x8x128 x (starts n.val) sliceFits_S128x4x64x8x128_S1x4x64x8x128) shapeCasts_S1x4x64x8x128_S4x64x8x128 (ix4 B r H k)
      = x (ix5 n B r H k) := by
  rw [WordCmp.dynamicSlice_eq_extract S1x4x64x8x128 x (starts n.val) _ ![n.val, 0, 0, 0, 0] ⟨rfl, by intro a; fin_cases a <;> simp <;> omega⟩ (starts_eq n)]
  pointwise

/-- Trip `n` writes chunk `n` and leaves the others. -/
theorem update128 (x : FVec Ideal S128x4x64x8x128 .f32) (u : FVec Ideal S4x64x8x128 .f32) (n n' : Fin 128) (B : Fin 4) (r : Fin 64) (H : Fin 8) (k : Fin 128) :
    Host.dynamicUpdateSlice x (broadcastInDim S1x4x64x8x128 ![1, 2, 3, 4] bcast_S4x64x8x128_S1x4x64x8x128_1_2_3_4 u) (starts n.val) updateFits_S128x4x64x8x128_S1x4x64x8x128 (ix5 n' B r H k)
      = if n' = n then u (ix4 B r H k) else x (ix5 n' B r H k) := by
  refine (congrFun (WordCmp.dynamicUpdateSlice_eq_update (u := S1x4x64x8x128) x _ (starts n.val) updateFits_S128x4x64x8x128_S1x4x64x8x128 ![n.val, 0, 0, 0, 0] ⟨rfl, by intro a; fin_cases a <;> simp <;> omega⟩ (starts_eq n)) _).trans ?_
  pointwise
  by_cases h : n' = n
  · rw [if_pos h, dif_pos (by omega)]
  · rw [if_neg h, dif_neg (by omega)]

variable (V : Valuation τ sig (Elt Ideal)) (D : Fin 4 → Fin 8 → Head)

/-- What the loop carries before trip `n`. -/
structure Carried (n : ℕ) (hn : n ≤ 128) : Prop where
  counter : V (Proc.devRef .tc main_v34_5) = fun _ => BitVec.ofNat 32 n
  q : ∀ n B r H k, (V (Proc.devRef .tc main_v34_0) : FVec Ideal S128x4x64x8x64 .f32) (ix5 n B r H k) = (D B H).q n r k * scale
  k : ∀ n B r H k, (V (Proc.devRef .tc main_v34_1) : FVec Ideal S128x4x64x8x64 .f32) (ix5 n B r H k) = (D B H).k n r k
  v : ∀ n B r H d, (V (Proc.devRef .tc main_v34_2) : FVec Ideal S128x4x64x8x128 .f32) (ix5 n B r H d) = (D B H).v n r d
  g : ∀ n B r H k, (V (Proc.devRef .tc main_v34_3) : FVec Ideal S128x4x64x8x64 .f32) (ix5 n B r H k) = (((D B H).sum n r k : ℝ) : EReal)
  mask : ∀ i j, (V (Proc.devRef .tc main_v34_4) : IVec S64x64 1) (ix2 i j) = BitVec.ofBool (decide (j.val ≤ i.val))
  state : ∀ B H k d, (V (Proc.devRef .tc main_v34_6) : FVec Ideal S4x8x64x128 .f32) (ix4 B H k d) = (D B H).state n hn d k
  out : ∀ (n' : Fin 128) B r H d, n'.val < n → (V (Proc.devRef .tc main_v34_7) : FVec Ideal S128x4x64x8x128 .f32) (ix5 n' B r H d) = (D B H).mixed n' r d

variable {V} {D} {n : Fin 128} (h : Carried V D n.val (Nat.le_of_lt n.isLt))

include h

/-- The queries of a trip. -/
theorem trip_q (B : Fin 4) (r : Fin 64) (H : Fin 8) (k : Fin 64) :
    (res_main_while0b_v58 V : FVec Ideal S4x64x8x64 .f32) (ix4 B r H k) = (D B H).q n r k * scale := by
  unfold res_main_while0b_v58
  rw [h.counter]
  exact (slice64 _ n B r H k).trans (h.q n B r H k)

/-- The keys of a trip. -/
theorem trip_k (B : Fin 4) (r : Fin 64) (H : Fin 8) (k : Fin 64) :
    (res_main_while0b_v59 V : FVec Ideal S4x64x8x64 .f32) (ix4 B r H k) = (D B H).k n r k := by
  unfold res_main_while0b_v59
  rw [h.counter]
  exact (slice64 _ n B r H k).trans (h.k n B r H k)

/-- The values of a trip. -/
theorem trip_v (B : Fin 4) (r : Fin 64) (H : Fin 8) (d : Fin 128) :
    (res_main_while0b_v60 V : FVec Ideal S4x64x8x128 .f32) (ix4 B r H d) = (D B H).v n r d := by
  unfold res_main_while0b_v60
  rw [h.counter]
  exact (slice128 _ n B r H d).trans (h.v n B r H d)

/-- The running gate sums of a trip. -/
theorem trip_g (B : Fin 4) (r : Fin 64) (H : Fin 8) (k : Fin 64) :
    (res_main_while0b_v61 V : FVec Ideal S4x64x8x64 .f32) (ix4 B r H k) = (((D B H).sum n r k : ℝ) : EReal) := by
  unfold res_main_while0b_v61
  rw [h.counter]
  exact (slice64 _ n B r H k).trans (h.g n B r H k)

/-- The total gate of a trip's chunk. -/
theorem trip_last (B : Fin 4) (H : Fin 8) (k : Fin 64) :
    (res_main_while0b_v81 V : FVec Ideal S4x8x64 .f32) (ix3 B H k) = (((D B H).sum n 63 k : ℝ) : EReal) := by
  unfold res_main_while0b_v81
  have hg := trip_g h
  generalize (res_main_while0b_v61 V) = G at hg ⊢
  clean_types
  pointwise
  exact hg B 63 H k

/-- One trip takes the state to the next chunk's. -/
theorem trip_state (B : Fin 4) (H : Fin 8) (k : Fin 64) (d : Fin 128) :
    (step_main_v34_6 V : FVec Ideal S4x8x64x128 .f32) (ix4 B H k d) = (D B H).state (n.val + 1) n.isLt d k := by
  have hk := trip_k h
  have hv := trip_v h
  have hg := trip_g h
  have hl := trip_last h
  have hs := h.state
  unfold step_main_v34_6
  generalize (res_main_while0b_v59 V) = K at hk ⊢
  generalize (res_main_while0b_v60 V) = W at hv ⊢
  generalize (res_main_while0b_v61 V) = G at hg ⊢
  generalize (res_main_while0b_v81 V) = L at hl ⊢
  generalize V (Proc.devRef .tc main_v34_6) = S at hs ⊢
  rw [id_eq]
  clean_types
  pointwise
  rw [hs, hl, Ideal.exp_coe, Head.state_succ]
  refine congrArg (_ + ·) (Finset.sum_congr rfl fun j _ => ?_)
  rw [hk, hg, hv, ← EReal.coe_sub, Ideal.exp_coe, mul_comm]

omit h in
/-- The decay between two rows, zero above the diagonal. -/
theorem masked_decay (i j : Fin 64) (a b : ℝ) :
    Ideal.exp (Scalar.select (BitVec.ofBool (decide (j.val ≤ i.val))) ((a : EReal) - (b : EReal)) (Ideal.ofBits .f32 0xFF800000#32))
      = if j.val ≤ i.val then ((Real.exp (a - b) : ℝ) : EReal) else 0 := by
  rw [show Ideal.ofBits .f32 0xFF800000#32 = (⊥ : EReal) by simp [Ideal.ofBits, Ideal.ieee]]
  by_cases hp : j.val ≤ i.val
  · rw [if_pos hp, ← Ideal.exp_coe, EReal.coe_sub]
    simp [hp, Scalar.select]
  · rw [if_neg hp]
    simp [hp, Scalar.select]

/-- One trip writes its chunk's outputs. -/
theorem trip_out (n' : Fin 128) (B : Fin 4) (r : Fin 64) (H : Fin 8) (d : Fin 128) :
    (step_main_v34_7 V : FVec Ideal S128x4x64x8x128 .f32) (ix5 n' B r H d)
      = if n' = n then (D B H).mixed n r d else (V (Proc.devRef .tc main_v34_7) : FVec Ideal S128x4x64x8x128 .f32) (ix5 n' B r H d) := by
  have hq := trip_q h
  have hk := trip_k h
  have hv := trip_v h
  have hg := trip_g h
  have hs := h.state
  have hm := h.mask
  unfold step_main_v34_7
  rw [h.counter, id_eq]
  generalize (res_main_while0b_v58 V) = Q at hq ⊢
  generalize (res_main_while0b_v59 V) = K at hk ⊢
  generalize (res_main_while0b_v60 V) = W at hv ⊢
  generalize (res_main_while0b_v61 V) = G at hg ⊢
  generalize V (Proc.devRef .tc main_v34_6) = S at hs ⊢
  generalize V (Proc.devRef .tc main_v34_4) = M at hm ⊢
  generalize V (Proc.devRef .tc main_v34_7) = O
  refine (update128 O _ n n' B r H d).trans ?_
  congr 1
  rw [id_eq]
  clean_types
  pointwise
  unfold Head.mixed
  rw [add_comm]
  congr 1
  · refine Finset.sum_congr rfl fun j _ => ?_
    rw [hv, mul_comm]
    congr 1
    unfold Head.score
    simp only [hq, hk, hg, hm, masked_decay]
    by_cases hj : j.val ≤ r.val
    · simp only [if_pos hj]
    · simp only [if_neg hj, mul_zero, Finset.sum_const_zero]
  · refine Finset.sum_congr rfl fun k _ => ?_
    rw [hs, hq, hg, Ideal.exp_coe, mul_comm]

omit h in
/-- What one trip carries to the next. -/
theorem Carried.step {V : Valuation τ sig (Elt Ideal)} {n : ℕ} (hn : n < 128) (h : Carried V D n (Nat.le_of_lt hn)) :
    Carried (STEP V) D (n + 1) hn where
  counter := by
    rw [STEP_main_v34_5]
    unfold step_main_v34_5
    rw [h.counter, id_eq]
    funext x
    exact (BitVec.ofNat_add n 1).symm
  q := by rw [STEP_main_v34_0]; exact h.q
  k := by rw [STEP_main_v34_1]; exact h.k
  v := by rw [STEP_main_v34_2]; exact h.v
  g := by rw [STEP_main_v34_3]; exact h.g
  mask := by rw [STEP_main_v34_4]; exact h.mask
  state := by rw [STEP_main_v34_6]; exact trip_state (n := ⟨n, hn⟩) h
  out := by
    rw [STEP_main_v34_7]
    intro n' B r H d hlt
    rw [trip_out (n := ⟨n, hn⟩) h]
    by_cases he : n' = ⟨n, hn⟩
    · rw [if_pos he, he]
    · rw [if_neg he]
      exact h.out n' B r H d (by
        have : n'.val ≠ n := fun e => he (Fin.ext e)
        omega)

omit h in
/-- What the loop carries at its end. -/
theorem Carried.iterate {V : Valuation τ sig (Elt Ideal)} (h : Carried V D 0 (Nat.zero_le _)) :
    (n : ℕ) → (hn : n ≤ 128) → Carried (STEP^[n] V) D n hn
  | 0, _ => h
  | n + 1, hn => by
    rw [Function.iterate_succ_apply']
    exact (Carried.iterate h n (Nat.le_of_succ_le hn)).step hn

end Cert.Gla
end
-- ==== Proof.Cumsum.lean ====
/-
The running sum along a chunk: the sum over a window that ends at an entry and reaches 63 entries back, zero outside the
array, is the sum of the entries up to it.
-/
module

public import proofs.«01_k».proof.Proof.Model
public import proofs.«01_k».proof.Proof.Gen.ReferenceIdeal.Run
public import Idealize.ShloMosaic.Lib.Pointwise

@[expose] public section
set_option maxRecDepth 100000

noncomputable section
namespace Cert.Gla

open Cert.ReferenceIdeal Cert.ReferenceIdeal.Gen Idealize.ShloMosaic

/-- Adding the entries of a list one by one is adding their sum. -/
theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window's places. -/
abbrev Window : Shape := ⟨5, ![1, 1, 64, 1, 1]⟩

/-- A window's places are those along its third axis. -/
def windowEquiv : Window.Idx ≃ Fin 64 where
  toFun w := w 2
  invFun j := ix5 (0 : Fin 1) (0 : Fin 1) j (0 : Fin 1) (0 : Fin 1)
  left_inv w := by
    funext a
    match a with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  right_inv j := rfl

/-- Reading 63 entries back from entry `i`, those inside the array, is reading the entries up to `i`. -/
theorem sum_back (f : Fin 64 → EReal) (i : Fin 64) :
    (∑ w : Fin 64, if h : 63 ≤ i.val + w.val then f ⟨i.val + w.val - 63, by omega⟩ else 0) = ∑ j : Fin 64, if j.val ≤ i.val then f j else 0 := by
  rw [← Finset.sum_filter]
  rw [← Finset.sum_filter_add_sum_filter_not Finset.univ (fun w : Fin 64 => 63 ≤ i.val + w.val)]
  rw [Finset.sum_eq_zero (s := Finset.univ.filter fun w : Fin 64 => ¬ 63 ≤ i.val + w.val) (fun w hw => dif_neg (Finset.mem_filter.1 hw).2), add_zero]
  refine Finset.sum_bij' (fun w _ => (⟨i.val + w.val - 63, by omega⟩ : Fin 64)) (fun j _ => (⟨(j.val + 63 - i.val) % 64, Nat.mod_lt _ (by omega)⟩ : Fin 64)) ?_ ?_ ?_ ?_ ?_
  · intro w hw
    refine Finset.mem_filter.2 ⟨Finset.mem_univ _, ?_⟩
    dsimp only
    omega
  · intro j hj
    have hj := (Finset.mem_filter.1 hj).2
    refine Finset.mem_filter.2 ⟨Finset.mem_univ _, ?_⟩
    dsimp only
    omega
  · intro w hw
    have hw := (Finset.mem_filter.1 hw).2
    refine Fin.ext ?_
    dsimp only
    omega
  · intro j hj
    have hj := (Finset.mem_filter.1 hj).2
    refine Fin.ext ?_
    dsimp only
    omega
  · intro w hw
    exact dif_pos (Finset.mem_filter.1 hw).2

/-- The running sum of an array of chunks along their rows, at an entry. -/
theorem cumsum_at (x : FVec Ideal S4x128x64x8x64 .f32) (z : FVec Ideal S_ .f32) (hz : ∀ p, z p = (0 : EReal))
    (h : S4x128x64x8x64.ReduceWindows ![1, 1, 64, 1, 1] ![1, 1, 1, 1, 1] ![0, 0, 63, 0, 0] ![0, 0, 0, 0, 0] S4x128x64x8x64) (hu : 0 < S_.numel)
    (B : Fin 4) (n : Fin 128) (i : Fin 64) (H : Fin 8) (k : Fin 64) :
    Host.reduceWindowAdd ![1, 1, 64, 1, 1] ![1, 1, 1, 1, 1] ![0, 0, 63, 0, 0] ![0, 0, 0, 0, 0] x z h hu (ix5 B n i H k)
      = ∑ j : Fin 64, if j.val ≤ i.val then (x (ix5 B n j H k) : EReal) else 0 := by
  unfold Host.reduceWindowAdd
  rw [Ideal.hostReduceWindowAdd_def]
  unfold Ideal.hostReduceWindowAdd Host.reduceWindow
  dsimp only
  refine (foldl_add _ _ _).trans ?_
  rw [hz, zero_add, ← Fin.sum_univ_def]
  refine Eq.trans ?_ (sum_back (fun j => x (ix5 B n j H k)) i)
  have hw (w : Window.Idx) : (w 2).val < 64 := (w 2).isLt
  refine Eq.trans ?_ ((Equiv.sum_comp Window.rowMajor.symm (fun w : Window.Idx =>
    (if h : 63 ≤ i.val + (w 2).val then x (ix5 B n (⟨i.val + (w 2).val - 63, by have := hw w; omega⟩ : Fin 64) H k) else 0 : EReal))).trans
    (Fintype.sum_equiv windowEquiv _ _ fun w => rfl))
  refine Finset.sum_congr rfl fun e _ => ?_
  have h2 := hw (Window.rowMajor.symm e)
  have h0 : (Window.rowMajor.symm e 0).val = 0 := Nat.lt_one_iff.1 (Window.rowMajor.symm e 0).isLt
  have h1 : (Window.rowMajor.symm e 1).val = 0 := Nat.lt_one_iff.1 (Window.rowMajor.symm e 1).isLt
  have h3 : (Window.rowMajor.symm e 3).val = 0 := Nat.lt_one_iff.1 (Window.rowMajor.symm e 3).isLt
  have h4 : (Window.rowMajor.symm e 4).val = 0 := Nat.lt_one_iff.1 (Window.rowMajor.symm e 4).isLt
  by_cases hle : 63 ≤ i.val + (Window.rowMajor.symm e 2).val
  · rw [dif_pos hle, dif_pos]
    · refine congrArg x (funext fun a => Fin.ext ?_)
      match a with
      | 0 => show B.val * 1 + (Window.rowMajor.symm e 0).val - 0 = B.val; omega
      | 1 => show n.val * 1 + (Window.rowMajor.symm e 1).val - 0 = n.val; omega
      | 2 => show i.val * 1 + (Window.rowMajor.symm e 2).val - 63 = i.val + (Window.rowMajor.symm e 2).val - 63; omega
      | 3 => show H.val * 1 + (Window.rowMajor.symm e 3).val - 0 = H.val; omega
      | 4 => show k.val * 1 + (Window.rowMajor.symm e 4).val - 0 = k.val; omega
    · intro a
      match a with
      | 0 => show 0 ≤ B.val * 1 + (Window.rowMajor.symm e 0).val ∧ B.val * 1 + (Window.rowMajor.symm e 0).val - 0 < 4; omega
      | 1 => show 0 ≤ n.val * 1 + (Window.rowMajor.symm e 1).val ∧ n.val * 1 + (Window.rowMajor.symm e 1).val - 0 < 128; omega
      | 2 => show 63 ≤ i.val * 1 + (Window.rowMajor.symm e 2).val ∧ i.val * 1 + (Window.rowMajor.symm e 2).val - 63 < 64; omega
      | 3 => show 0 ≤ H.val * 1 + (Window.rowMajor.symm e 3).val ∧ H.val * 1 + (Window.rowMajor.symm e 3).val - 0 < 8; omega
      | 4 => show 0 ≤ k.val * 1 + (Window.rowMajor.symm e 4).val ∧ k.val * 1 + (Window.rowMajor.symm e 4).val - 0 < 64; omega
  · rw [dif_neg hle, dif_neg]
    intro hin
    have h63 : 63 ≤ i.val * 1 + (Window.rowMajor.symm e 2).val := (hin 2).1
    omega

end Cert.Gla
end
-- ==== Proof.RefEntry.lean ====
/-
What the reference's loop carries when it begins: the chunked queries, keys, values and running sums of the gates, the
causal mask, and a state and an output that are zero.
-/
module

public import proofs.«01_k».proof.Proof.RefTrip
public import proofs.«01_k».proof.Proof.Cumsum

@[expose] public section
set_option maxRecDepth 100000

noncomputable section
namespace Cert.Gla

open Idealize.ShloMosaic.StableHlo Cert.ReferenceIdeal Cert.ReferenceIdeal.Gen Cert.ReferenceIdeal.Value Idealize.ShloMosaic Idealize.ShloMosaic.TcCoe Idealize.SL.Sem

/-- The gates' logits as the reference computes them. -/
def refLogits (zs : FVec Ideal S32768x128 .f32) (w : FVec Ideal S16x512 .f32) (b : FVec Ideal S512 .f32) : FVec Ideal S4x8192x512 .f32 :=
  addf (Host.dotGeneral dot_S4x8192x16_S16x512_S4x8192x512_2_0_01_1_n_n none
      (extractStridedSlice S4x8192x16 ![0, 0, 0] (shapeCast S4x8192x128 zs shapeCasts_S32768x128_S4x8192x128) slices_S4x8192x128_S4x8192x16_0_0_0) w)
    (broadcastInDim S4x8192x512 ![0, 1, 2] bcast_S1x1x512_S4x8192x512_0_1_2 (broadcastInDim S1x1x512 ![2] bcast_S512_S1x1x512_2 b))

/-- The gate logits, entry by entry. -/
theorem refLogits_at (zs : FVec Ideal S32768x128 .f32) (w : FVec Ideal S16x512 .f32) (b : FVec Ideal S512 .f32) (B : Fin 4) (t : Fin 8192) (j : Fin 512) :
    refLogits zs w b (ix3 B t j) = logitAt zs w b (⟨8192 * B.val + t.val, by omega⟩ : Fin 32768) j := by
  pointwise [refLogits]
  unfold logitAt
  exact congrArg (fun u : Fin 32768 => (∑ p : Fin 16, zs (ix2 u (⟨p.val, by omega⟩ : Fin 128)) * w (ix2 p j)) + b (ix1 j))
    (Fin.ext (show B.val * 8192 + t.val = 8192 * B.val + t.val by omega))

/-- The zero array the logistic is computed against. -/
def zeros3 : FVec Ideal S4x8192x512 .f32 := broadcastInDim S4x8192x512 ![] bcast_S_S4x8192x512 (constant (F := Ideal) S_ .f32 0x00000000#32)

/-- The logarithm of the logistic function as the reference computes it. -/
def refLogSigmoid (x : FVec Ideal S4x8192x512 .f32) : FVec Ideal S4x8192x512 .f32 :=
  Host.negf (select (cmpf .une (subf (Host.negf x) zeros3) (subf (Host.negf x) zeros3)) (addf (Host.negf x) zeros3)
    (addf (maximumf (Host.negf x) zeros3) (Host.log1p (Host.exp (Host.negf (Host.absf (subf (Host.negf x) zeros3)))))))

/-- The gates' logarithms, in chunks. -/
def refGates (x : FVec Ideal S4x8192x512 .f32) : FVec Ideal S4x128x64x8x64 .f32 :=
  shapeCast S4x128x64x8x64 (shapeCast S4x8192x8x64 (Host.divf (refLogSigmoid x)
    (broadcastInDim S4x8192x512 ![] bcast_S_S4x8192x512 (constant (F := Ideal) S_ .f32 0x41800000#32)))
    shapeCasts_S4x8192x512_S4x8192x8x64) shapeCasts_S4x8192x8x64_S4x128x64x8x64

/-- The log gates by chunk, head and column. -/
theorem refGates_at (x : FVec Ideal S4x8192x512 .f32) (B : Fin 4) (n : Fin 128) (r : Fin 64) (H : Fin 8) (k : Fin 64) (l : ℝ)
    (hx : x (ix3 B (⟨64 * n.val + r.val, by omega⟩ : Fin 8192) (headCol H k)) = (l : EReal)) :
    refGates x (ix5 B n r H k) = (logGate l : EReal) := by
  pointwise [refGates, refLogSigmoid, zeros3]
  have hi : ix3 B (⟨n.val * 64 + r.val, by omega⟩ : Fin 8192) (⟨H.val * 64 + k.val, by omega⟩ : Fin 512)
      = ix3 B (⟨64 * n.val + r.val, by omega⟩ : Fin 8192) (headCol H k) := by
    congr 1
    · exact Fin.ext (by dsimp only; omega)
    · exact Fin.ext (by dsimp only [headCol]; omega)
  have hx := (congrArg x hi).trans hx
  simp only [hx, ne_eq, not_true_eq_false, if_false]
  have hg := gate_reference l
  rw [sub_zero] at hg
  exact hg

variable (m : (ℓ : Loc nD τ sig) → Buf (Elt Ideal) ℓ) (c : Dev nD)

/-- The reference's arguments. -/
def refZ : FVec Ideal S32768x3072 .bf16 := m ((c.tc : Thread nD τ).loc main_arg0)
/-- The small projection. -/
def refZs : FVec Ideal S32768x128 .f32 := m ((c.tc : Thread nD τ).loc main_arg1)
/-- The gate weights. -/
def refW : FVec Ideal S16x512 .f32 := m ((c.tc : Thread nD τ).loc main_arg2)
/-- The gate bias. -/
def refB : FVec Ideal S512 .f32 := m ((c.tc : Thread nD τ).loc main_arg3)
/-- The norm weight. -/
def refG : FVec Ideal S128 .f32 := m ((c.tc : Thread nD τ).loc main_arg4)

/-- The gate sums on entry to the scan. -/
theorem entry_g : (entryContents preI m c (Proc.devRef .tc main_v34_3) : FVec Ideal S128x4x64x8x64 .f32)
    = transpose S128x4x64x8x64 [1, 0, 2, 3, 4] (Host.reduceWindowAdd ![1, 1, 64, 1, 1] ![1, 1, 1, 1, 1] ![0, 0, 63, 0, 0] ![0, 0, 0, 0, 0]
        (refGates (refLogits (refZs m c) (refW m c) (refB m c)))
        (broadcastInDim S_ ![] bcast_S_S_ (constant (F := Ideal) S_ .f32 0x00000000#32))
        reduceWindows_S4x128x64x8x64_S4x128x64x8x64_w1s1p0_0_w1s1p0_0_w64s1p63_0_w1s1p0_0_w1s1p0_0 h_S_) transposes_S4x128x64x8x64_S128x4x64x8x64_1_0_2_3_4 := by
  simp only [entryContents, afterL_cons, afterL_nil]
  after_reads_simp
  simp only [TRef.ofBuf_toBuf, id_eq]
  rfl

/-- The queries on entry to the scan. -/
theorem entry_q : (entryContents preI m c (Proc.devRef .tc main_v34_0) : FVec Ideal S128x4x64x8x64 .f32)
    = transpose S128x4x64x8x64 [1, 0, 2, 3, 4] (shapeCast S4x128x64x8x64 (mulf (shapeCast S4x8192x8x64 (extractStridedSlice S4x8192x512 ![0, 0, 0]
        (shapeCast S4x8192x3072 (extf .f32 (refZ m c) bitsLt_bf16_f32) shapeCasts_S32768x3072_S4x8192x3072) slices_S4x8192x3072_S4x8192x512_0_0_0) shapeCasts_S4x8192x512_S4x8192x8x64)
        (broadcastInDim S4x8192x8x64 ![] bcast_S_S4x8192x8x64 (constant (F := Ideal) S_ .f32 0x3E000000#32)))
        shapeCasts_S4x8192x8x64_S4x128x64x8x64) transposes_S4x128x64x8x64_S128x4x64x8x64_1_0_2_3_4 := by
  simp only [entryContents, afterL_cons, afterL_nil]
  after_reads_simp
  rfl

/-- The keys on entry to the scan. -/
theorem entry_k : (entryContents preI m c (Proc.devRef .tc main_v34_1) : FVec Ideal S128x4x64x8x64 .f32)
    = transpose S128x4x64x8x64 [1, 0, 2, 3, 4] (shapeCast S4x128x64x8x64 (shapeCast S4x8192x8x64 (extractStridedSlice S4x8192x512 ![0, 0, 512]
        (shapeCast S4x8192x3072 (extf .f32 (refZ m c) bitsLt_bf16_f32) shapeCasts_S32768x3072_S4x8192x3072) slices_S4x8192x3072_S4x8192x512_0_0_512) shapeCasts_S4x8192x512_S4x8192x8x64)
        shapeCasts_S4x8192x8x64_S4x128x64x8x64) transposes_S4x128x64x8x64_S128x4x64x8x64_1_0_2_3_4 := by
  simp only [entryContents, afterL_cons, afterL_nil]
  after_reads_simp
  rfl

/-- The values on entry to the scan. -/
theorem entry_v : (entryContents preI m c (Proc.devRef .tc main_v34_2) : FVec Ideal S128x4x64x8x128 .f32)
    = transpose S128x4x64x8x128 [1, 0, 2, 3, 4] (shapeCast S4x128x64x8x128 (shapeCast S4x8192x8x128 (extractStridedSlice S4x8192x1024 ![0, 0, 1024]
        (shapeCast S4x8192x3072 (extf .f32 (refZ m c) bitsLt_bf16_f32) shapeCasts_S32768x3072_S4x8192x3072) slices_S4x8192x3072_S4x8192x1024_0_0_1024) shapeCasts_S4x8192x1024_S4x8192x8x128)
        shapeCasts_S4x8192x8x128_S4x128x64x8x128) transposes_S4x128x64x8x128_S128x4x64x8x128_1_0_2_3_4 := by
  simp only [entryContents, afterL_cons, afterL_nil]
  after_reads_simp
  rfl

/-- The mask on entry to the scan. -/
theorem entry_mask : (entryContents preI m c (Proc.devRef .tc main_v34_4) : IVec S64x64 1)
    = select (cmpi .sge (addi (iotaInDim S64x64 32 0) (broadcastInDim S64x64 ![] bcast_S_S64x64 (constantI S_ 32 0#32))) (iotaInDim S64x64 32 1))
        (broadcastInDim S64x64 ![] bcast_S_S64x64 (constantI S_ 1 1#1)) (broadcastInDim S64x64 ![] bcast_S_S64x64 (constantI S_ 1 0#1)) := by
  simp only [entryContents, afterL_cons, afterL_nil]
  after_reads_simp
  simp only [TRef.ofBuf_toBuf, id_eq]
  rfl

/-- The state on entry to the scan. -/
theorem entry_state : (entryContents preI m c (Proc.devRef .tc main_v34_6) : FVec Ideal S4x8x64x128 .f32)
    = broadcastInDim S4x8x64x128 ![] bcast_S_S4x8x64x128 (constant (F := Ideal) S_ .f32 0x00000000#32) := by
  simp only [entryContents, afterL_cons, afterL_nil]
  after_reads_simp
  rfl

/-- Two ways to count a row among all rows. -/
theorem reads_at (B : Fin 4) (n : Fin 128) (r : Fin 64) {a b : ℕ} (h0 : B.val * 8192 + (n.val * 64 + r.val) < 32768) (ha : a < 3072) (hb : b = a) :
    (ix2 (⟨B.val * 8192 + (n.val * 64 + r.val), h0⟩ : Fin 32768) (⟨a, ha⟩ : Fin 3072)) = ix2 (rowAt B n r) (⟨b, by omega⟩ : Fin 3072) := by
  subst hb
  exact congrArg (fun x => ix2 x _) (Fin.ext (by dsimp only [rowAt]; omega))

/-- Chunks first instead of sequences first. -/
theorem transposed_at (x : FVec Ideal S4x128x64x8x64 .f32) (n : Fin 128) (B : Fin 4) (r : Fin 64) (H : Fin 8) (k : Fin 64) :
    transpose S128x4x64x8x64 [1, 0, 2, 3, 4] x transposes_S4x128x64x8x64_S128x4x64x8x64_1_0_2_3_4 (ix5 n B r H k) = x (ix5 B n r H k) := by
  pointwise

/-- The causal mask's bit. -/
theorem mask_at (i j : Fin 64) :
    Scalar.select (IntOp.cmpi CmpIPredicate.sge (IntOp.addi (BitVec.ofNat 32 i.val) 0#32) (BitVec.ofNat 32 j.val)) 1#1 0#1
      = BitVec.ofBool (decide (j.val ≤ i.val)) := by
  revert i j
  decide

/-- The loop begins with the model's state of no chunks. -/
theorem carried_entry (hf : FiniteGates (refZs m c) (refW m c) (refB m c)) :
    Carried (entryContents preI m c) (headOf (refZ m c) (refZs m c) (refW m c) (refB m c)) 0 (Nat.zero_le _) where
  counter := ctr_entry m c
  q n B r H k := by
    rw [entry_q]
    generalize refZ m c = z
    pointwise
    exact congrArg (fun x => z x * scale) (reads_at B n r (by omega) (by omega) (by omega))
  k n B r H k := by
    rw [entry_k]
    generalize refZ m c = z
    pointwise
    exact congrArg z (reads_at B n r (by omega) (by omega) (by omega))
  v n B r H d := by
    rw [entry_v]
    generalize refZ m c = z
    pointwise
    exact congrArg z (reads_at B n r (by omega) (by omega) (by omega))
  g n B r H k := by
    rw [entry_g]
    refine (transposed_at _ n B r H k).trans ?_
    refine (cumsum_at _ _ (fun p => by pointwise) _ _ B n r H k).trans ?_
    unfold Head.sum
    rw [coe_sum]
    refine Finset.sum_congr rfl fun j _ => ?_
    by_cases hj : j.val ≤ r.val
    · rw [if_pos hj, if_pos hj]
      refine refGates_at _ B n j H k _ ?_
      refine (refLogits_at _ _ _ B _ _).trans ?_
      rw [show (⟨8192 * B.val + (64 * n.val + j.val), by omega⟩ : Fin 32768) = rowAt B n j from Fin.ext (by dsimp only [rowAt]; omega)]
      exact hf.logit _ _
    · rw [if_neg hj, if_neg hj]; rfl
  mask i j := by
    rw [entry_mask]
    pointwise
    exact mask_at i j
  state B H k d := by
    rw [entry_state]
    pointwise
    rfl
  out n' B r H d h := absurd h (Nat.not_lt_zero _)

end Cert.Gla
end
-- ==== Proof.RefValue.lean ====
/-
The reference's result: after all chunks, its outputs normalised and gated are the model's result.
-/
module

public import proofs.«01_k».proof.Proof.RefEntry

@[expose] public section
set_option maxRecDepth 100000

noncomputable section
namespace Cert.Gla

open Idealize.ShloMosaic.StableHlo Cert.ReferenceIdeal Cert.ReferenceIdeal.Gen Cert.ReferenceIdeal.Value Idealize.ShloMosaic Idealize.ShloMosaic.TcCoe Idealize.SL.Sem

/-- The reference's last operations at an entry, by the mixed outputs they read. -/
theorem out_at (V : Valuation τ sig (Elt Ideal)) (z : FVec Ideal S32768x3072 .bf16) (gn : FVec Ideal S128 .f32)
    (hz : V (Proc.devRef .tc main_arg0) = z) (hg : V (Proc.devRef .tc main_arg4) = gn) (o : Fin 4 → Fin 8 → Fin 128 → Fin 64 → Fin 128 → EReal)
    (ho : ∀ n B r H d, (V (Proc.devRef .tc main_v34_7) : FVec Ideal S128x4x64x8x128 .f32) (ix5 n B r H d) = o B H n r d)
    (t : Fin 32768) (x : Fin 1024) (B : Fin 4) (n : Fin 128) (i : Fin 64) (H : Fin 8) (d : Fin 128)
    (ht : t.val = 8192 * B.val + 64 * n.val + i.val) (hx : x.val = 128 * H.val + d.val) :
    (out_main_v57 V : FVec Ideal S32768x1024 .bf16) (ix2 t x)
      = finish (o B H n i) (fun d => gn (ix1 d)) (z (ix2 (rowAt B n i) (⟨2048 + 128 * H.val + d.val, by omega⟩ : Fin 3072))) d := by
  unfold out_main_v57
  rw [hz, hg]
  generalize V (Proc.devRef .tc main_v34_7) = O at ho
  clean_types
  pointwise
  have hO (e : Fin 128) : O (ix5 (⟨t.val % 8192 / 64, by omega⟩ : Fin 128) (⟨t.val / 8192, by omega⟩ : Fin 4)
      (⟨t.val % 8192 % 64, by omega⟩ : Fin 64) (⟨x.val / 128, by omega⟩ : Fin 8) e) = o B H n i e := by
    rw [← ho n B i H e]
    refine congrArg O ?_
    congr 1
    all_goals exact Fin.ext (by dsimp only; omega)
  have hd : (⟨x.val % 128, by omega⟩ : Fin 128) = d := Fin.ext (by dsimp only; omega)
  have hr : ix2 t (⟨2048 + x.val, by omega⟩ : Fin 3072) = ix2 (rowAt B n i) (⟨2048 + 128 * H.val + d.val, by omega⟩ : Fin 3072) := by
    congr 1
    · exact Fin.ext (by dsimp only [rowAt]; omega)
    · exact Fin.ext (by dsimp only; omega)
  simp only [hO, hd, hr]
  unfold finish
  rw [zero_sub]

variable (m : (ℓ : Loc nD τ sig) → Buf (Elt Ideal) ℓ) (c : Dev nD)

/-- The reference's result array is the model's. -/
theorem reference_array (hf : FiniteGates (refZs m c) (refW m c) (refB m c)) :
    out_main_v57 (STEP^[128] (entryContents preI m c)) = result (refZ m c) (refZs m c) (refW m c) (refB m c) (refG m c) := by
  have hC := Carried.iterate (carried_entry m c hf) 128 le_rfl
  funext x
  have h0 : (x 0).val < 32768 := (x 0).isLt
  have h1 : (x 1).val < 1024 := (x 1).isLt
  obtain ⟨B, n, i, H, d, e0, e1⟩ : ∃ (B : Fin 4) (n : Fin 128) (i : Fin 64) (H : Fin 8) (d : Fin 128),
      (x 0).val = 8192 * B.val + 64 * n.val + i.val ∧ (x 1).val = 128 * H.val + d.val :=
    ⟨⟨(x 0).val / 8192, by omega⟩, ⟨(x 0).val % 8192 / 64, by omega⟩, ⟨(x 0).val % 64, by omega⟩, ⟨(x 1).val / 128, by omega⟩,
      ⟨(x 1).val % 128, by omega⟩, by dsimp only; omega, by dsimp only; omega⟩
  have hx : x = ix2 (⟨(x 0).val, h0⟩ : Fin 32768) (⟨(x 1).val, h1⟩ : Fin 1024) := by
    funext a
    match a with
    | 0 => rfl
    | 1 => rfl
  refine Eq.trans ?_ (result_of _ _ _ _ _ x B n i H d e0 e1).symm
  refine (congrArg (out_main_v57 (STEP^[128] (entryContents preI m c))) hx).trans ?_
  exact out_at _ (refZ m c) (refG m c) (iter_main_arg0 m c 128) (iter_main_arg4 m c 128)
    (fun B H => (headOf (refZ m c) (refZs m c) (refW m c) (refB m c) B H).mixed) (fun n B r H d => hC.out n B r H d n.isLt)
    _ _ B n i H d e0 e1

end Cert.Gla
end
-- ==== Proof.Precondition.lean ====
/-
The precondition says that the gate inputs, the gate weights and the gate bias are real numbers.
-/
module

public import proofs.«01_k».proof.Proof.Problem
public import proofs.«01_k».proof.Pre_finite_gates
public import Idealize.ShloMosaic.Lib.Pointwise
public import Idealize.ShloMosaic.Lib.ReduceAll

@[expose] public section
set_option maxRecDepth 100000

noncomputable section
namespace Cert.Gla

open Cert.Pre_finite_gates Idealize.ShloMosaic

/-- The side conditions the precondition's operations take. -/
theorem preFacts : Cert.Pre_finite_gates.Facts := by
  constructor <;> decide

/-- Below infinity in absolute value is being a real number. -/
theorem finite_of_lt (x : EReal) (h : FloatOps.cmpf (F := Ideal) (φ := .f32) .olt (max x (-x)) (Ideal.ofBits .f32 0x7F800000#32) = 1#1) : Finite x := by
  have h : max x (-x) < (⊤ : EReal) := by
    rw [show Ideal.ofBits .f32 0x7F800000#32 = (⊤ : EReal) by simp [Ideal.ofBits, Ideal.ieee]] at h
    by_contra hn
    change BitVec.ofBool (decide (max x (-x) < (⊤ : EReal))) = 1#1 at h
    rw [decide_eq_false hn] at h
    exact absurd h (by decide)
  obtain ⟨h1, h2⟩ := max_lt_iff.1 h
  induction x with
  | bot => exact absurd h2 (by simp)
  | top => exact absurd h1 (by simp)
  | coe r => exact ⟨r, rfl⟩

/-- A conjunction of two bits that is one has both one. -/
theorem andi_one (a b : IVec S_ 1) (h : andi a b = fun _ => 1#1) : a ix0 = 1#1 ∧ b ix0 = 1#1 := by
  have h := congrFun h ix0
  change a ix0 &&& b ix0 = 1#1 at h
  revert h
  generalize a ix0 = a
  generalize b ix0 = b
  revert a b
  decide

/-- The precondition, read as a statement on the three arrays: every gate input, gate weight and gate bias is finite. -/
theorem finiteGates_of [Cert.Pre_finite_gates.Facts] (z : FVec Ideal S32768x3072 .bf16) (zs : FVec Ideal S32768x128 .f32) (w : FVec Ideal S16x512 .f32) (b : FVec Ideal S512 .f32)
    (gn : FVec Ideal S128 .f32) (h : fn (F := Ideal) z zs w b gn = fun _ => 1#1) : FiniteGates zs w b := by
  dsimp only [fn] at h
  obtain ⟨h1, hb⟩ := andi_one _ _ h
  obtain ⟨hz, hw⟩ := andi_one _ _ (funext fun i => (congrArg _ (Subsingleton.elim i ix0)).trans h1)
  have hz (x : S32768x16.Idx) := Host.reduce_andi_all _ _ _ _ _ hz x
  have hw (x : S16x512.Idx) := Host.reduce_andi_all _ _ _ _ _ hw x
  have hb (x : S512.Idx) := Host.reduce_andi_all _ _ _ _ _ hb x
  refine ⟨fun t p => finite_of_lt _ ?_, fun p j => finite_of_lt _ (hw (ix2 p j)), fun j => finite_of_lt _ (hb (ix1 j))⟩
  have h := hz (ix2 t p)
  pointwise at h
  exact h

end Cert.Gla
end
-- ==== Proof.Rows.lean ====
/-
What the layer's dense products share: a block of 1024 rows stored as four stores of 256 rows, read at an entry, and the
logistic function over the extended reals.
-/
module

public import Idealize.ShloMosaic.Lib.Pipeline.ValueKit
public import Idealize.ShloMosaic.Lib.Pointwise

@[expose] public section

noncomputable section
namespace Cert.Dense

open Idealize.ShloMosaic Idealize.SL.Sem

/-- The logistic function, as the kernels compute it. -/
def gateOf (x : EReal) : EReal := Ideal.div 1 (1 + Ideal.exp (0 - x))

/-- A block of 1024 rows, and a store of 256 of them. -/
abbrev Block (n : ℕ) : Shape := ⟨2, ![1024, n]⟩
/-- A quarter of a block's rows, `n` wide. -/
abbrev Part (n : ℕ) : Shape := ⟨2, ![256, n]⟩

/-- Row `r` of the store that begins at row `b`. -/
def rowFrom (b : ℕ) (hb : b + 256 ≤ 1024) (r : Fin 256) : Fin 1024 := ⟨b + r.val, by omega⟩

variable {Val : EltTy → Type} [∀ e, Nonempty (Val e)] {e : EltTy} {n : ℕ}

/-- Entry `(r, k)` of a store that begins at row `b`, in the block. -/
theorem part_emb (b : ℕ) (hb : b + 256 ≤ 1024) (inb) (r : Fin 256) (k : Fin n) :
    (Rect.unit (s := Block n) ![b, 0] (Part n).size inb).emb (ix2 r k : (Part n).Idx) = ix2 (rowFrom b hb r) k := by
  funext a
  match a with
  | 0 => exact Fin.ext (by show b + 1 * r.val = b + r.val; omega)
  | 1 => exact Fin.ext (by show 0 + 1 * k.val = k.val; omega)

/-- A store that agrees with `G` row by row agrees with it where it lies in the block. -/
theorem part_agrees (b : ℕ) (hb : b + 256 ≤ 1024) (inb) (w : (Part n).Idx → Val e) (G : Fin 1024 → Fin n → Val e)
    (h : ∀ r k, w (ix2 r k) = G (rowFrom b hb r) k) (x : (Part n).Idx) :
    w x = (fun y : (Block n).Idx => G (y 0) (y 1)) ((Rect.unit (s := Block n) ![b, 0] (Part n).size inb).emb x) := by
  have hx : x = ix2 (x 0) (x 1) := by
    funext a
    match a with
    | 0 => rfl
    | 1 => rfl
  have he : (Rect.unit (s := Block n) ![b, 0] (Part n).size inb).emb x = ix2 (rowFrom b hb (x 0)) (x 1) :=
    (congrArg _ hx).trans (part_emb b hb inb (x 0) (x 1))
  exact (congrArg w hx).trans ((h _ _).trans (congrArg (fun y : (Block n).Idx => G (y 0) (y 1)) he).symm)

/-- Four stores that agree with `G` leave `G`. -/
theorem canon_rows (i0 i1 i2 i3) (w0 w1 w2 w3 : (Part n).Idx → Val e) (G : Fin 1024 → Fin n → Val e)
    (h0 : ∀ r k, w0 (ix2 r k) = G (rowFrom 0 (by omega) r) k) (h1 : ∀ r k, w1 (ix2 r k) = G (rowFrom 256 (by omega) r) k)
    (h2 : ∀ r k, w2 (ix2 r k) = G (rowFrom 512 (by omega) r) k) (h3 : ∀ r k, w3 (ix2 r k) = G (rowFrom 768 (by omega) r) k)
    (r : Fin 1024) (k : Fin n) :
    View.canon [(⟨Rect.unit (s := Block n) ![768, 0] (Part n).size i3, w3⟩ : View.Piece Val (Block n) e),
      ⟨Rect.unit (s := Block n) ![512, 0] (Part n).size i2, w2⟩, ⟨Rect.unit (s := Block n) ![256, 0] (Part n).size i1, w1⟩,
      ⟨Rect.unit (s := Block n) ![0, 0] (Part n).size i0, w0⟩] (ix2 r k) = G r k := by
  refine View.canon_apply_of_pieces (fun y : (Block n).Idx => G (y 0) (y 1)) _ ?_ (ix2 r k) ?_
  · simp only [List.forall_mem_cons, List.not_mem_nil, false_imp_iff, implies_true, and_true]
    exact ⟨part_agrees 768 _ _ _ _ h3, part_agrees 512 _ _ _ _ h2, part_agrees 256 _ _ _ _ h1, part_agrees 0 _ _ _ _ h0⟩
  · have key : ∀ (b : ℕ) (inb), b ≤ r.val → r.val < b + 256 →
        (ix2 r k : (Block n).Idx) ∈ (Rect.unit (s := Block n) ![b, 0] (Part n).size inb).set := by
      intro b inb h1 h2
      rw [Rect.mem_set_unit]
      intro a
      match a with
      | 0 => exact ⟨h1, h2⟩
      | 1 => exact ⟨Nat.zero_le _, by show k.val < 0 + n; have := k.isLt; omega⟩
    have hr := r.isLt
    by_cases a3 : 768 ≤ r.val
    · exact ⟨_, List.mem_cons_self, key 768 i3 a3 (by omega)⟩
    by_cases a2 : 512 ≤ r.val
    · exact ⟨_, List.mem_cons_of_mem _ List.mem_cons_self, key 512 i2 a2 (by omega)⟩
    by_cases a1 : 256 ≤ r.val
    · exact ⟨_, List.mem_cons_of_mem _ (List.mem_cons_of_mem _ List.mem_cons_self), key 256 i1 a1 (by omega)⟩
    · exact ⟨_, List.mem_cons_of_mem _ (List.mem_cons_of_mem _ (List.mem_cons_of_mem _ List.mem_cons_self)), key 0 i0 (by omega) (by omega)⟩

end Cert.Dense
end
-- ==== Proof.Projection.lean ====
/-
The projection that gives the gated-linear-attention branch its queries, keys, values and output gates: the first 3072
columns of the product of the normalised input with the in-projection's weights.
-/
module

public import proofs.«01_k».proof.Defs
public import proofs.«01_k».proof.Proof.Rows
public import proofs.«01_k».proof.Proof.Gen.Kernel2Ideal.Value
public import proofs.«01_k».proof.Proof.Gen.Reference2Ideal.Run

@[expose] public section
set_option maxRecDepth 100000

noncomputable section
namespace Cert.Projection

open Cert.Dense Idealize.ShloMosaic Idealize.ShloMosaic.TcCoe Idealize.SL.Sem

/-- Column `k` of the result in the in-projection. -/
def source (k : Fin 3072) : Fin 7264 := ⟨k.val, by omega⟩

/-- The projection from the normalised input and the in-projection's weights. -/
def result (h : FVec Ideal ⟨2, ![32768, 2048]⟩ .bf16) (w : FVec Ideal ⟨2, ![2048, 7264]⟩ .f32) : FVec Ideal ⟨2, ![32768, 3072]⟩ .bf16 :=
  fun y => ∑ q : Fin 2048, h (ix2 (y 0) q) * w (ix2 q (source (y 1)))

section Kernel
open Cert.Kernel2Ideal Cert.Kernel2Ideal.Gen

/-- What a launch leaves in its output block. -/
theorem block_at (x0 : Vec Ideal S1024x2048 .bf16) (x1 : Vec Ideal S2048x512 .bf16) (r : Fin 1024) (k : Fin 512) :
    out0_2 x0 x1 (ix2 r k) = ∑ q : Fin 2048, x0 (ix2 r q) * x1 (ix2 q k) := by
  unfold out0_2
  refine canon_rows (Val := Elt Ideal) (e := .bf16) _ _ _ _ _ _ _ _ (fun r k => ∑ q : Fin 2048, x0 (ix2 r q) * x1 (ix2 q k)) ?_ ?_ ?_ ?_ r k
  all_goals intro r k
  · pointwise [k0_pay1, rowFrom]
  · pointwise [k0_pay2, rowFrom]
  · pointwise [k0_pay3, rowFrom]
  · pointwise [k0_pay4, rowFrom]

/-- The block every window stages at grid point `t`. -/
theorem idx (t : Fin cfg0.N) : win0_0.index t = ![t.val / 6, 0] ∧ win0_1.index t = ![0, t.val % 6] ∧ win0_2.index t = ![t.val / 6, t.val % 6] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The in-projection's weights. -/
def argW : FVec Ideal S2048x7264 .f32 := m ((c : Thread nD τ).loc main_arg1)

/-- Row `r` of grid point `t`'s rows, and column `k` of its columns. -/
def rowOf (t : Fin cfg0.N) (r : Fin 1024) : Fin 32768 := ⟨1024 * (t.val / 6) + r.val, by have := lt_of_lt_of_eq t.isLt N_0; omega⟩
/-- The result column of a launch's column. -/
def colOf (t : Fin cfg0.N) (k : Fin 512) : Fin 3072 := ⟨512 * (t.val % 6) + k.val, by omega⟩

/-- What a launch loads. -/
theorem h_at (t : Fin cfg0.N) (r : Fin 1024) (q : Fin 2048) : iblk m c 0 t (ix2 r q) = argH m c (ix2 (rowOf t r) q) := by
  obtain ⟨e0, e1, e2⟩ := idx t
  pointwise [argH]
  blk_ext [iblk, V_main_arg0, e0, rowOf]

/-- A launch loads the weights of its own columns. -/
theorem w_at (t : Fin cfg0.N) (q : Fin 2048) (k : Fin 512) : iblk m c 1 t (ix2 q k) = argW m c (ix2 q (source (colOf t k))) := by
  obtain ⟨e0, e1, e2⟩ := idx t
  have he : (win0_1.blk t).view.emb (ix2 q k) = ix2 q (colOf t k) := by blk_ext [e1, colOf]
  have hv : V m c main_v1 (ix2 q (colOf t k)) = argW m c (ix2 q (source (colOf t k))) := by
    entry_read
    pointwise [argW, source]
  exact (congrArg (V m c main_v1) he).trans hv

/-- The final array is the projection. -/
theorem kernel_array : (dats m 0 c).arrAt 2 cfg0.N = result (argH m c) (argW m c) := by
  refine (dats m 0 c).arrAt_eq_of_covers 2 _ (by decide +kernel) fun t hfl y => ?_
  obtain ⟨e0, e1, e2⟩ := idx t
  blk_simp
  rw [after0_2]
  have hy : y = ix2 (y 0) (y 1) := by
    funext a
    match a with
    | 0 => rfl
    | 1 => rfl
  have he : (win0_2.blk t).view.emb y = ix2 (rowOf t (y 0)) (colOf t (y 1)) :=
    (congrArg _ hy).trans (by blk_ext [e2, rowOf, colOf])
  refine (congrArg (out0_2 _ _) hy).trans ((block_at _ _ (y 0) (y 1)).trans ?_)
  refine Eq.trans ?_ (congrArg (result (argH m c) (argW m c)) he).symm
  exact Finset.sum_congr rfl fun q _ => congrArg₂ (· * ·) (h_at m c t (y 0) q) (w_at m c t q (y 1))
end Kernel

section Reference
open Cert.Reference2Ideal Cert.Reference2Ideal.Gen

/-- The reference's operations on the arguments. -/
def reference (h : FVec Ideal S32768x2048 .bf16) (w : FVec Ideal S2048x7264 .f32) : FVec Ideal S32768x3072 .bf16 :=
  truncf .bf16 (extractStridedSlice S32768x3072 ![0, 0]
    (Host.dotGeneral (F := Ideal) dot_S32768x2048_S2048x7264_S32768x7264_1_0_0_1_n_n none (extf .f32 h bitsLt_bf16_f32) w)
    slices_S32768x7264_S32768x3072_0_0) bitsLt_bf16_f32

/-- The reference's operations on the arguments are the projection. -/
theorem reference_result (h : FVec Ideal S32768x2048 .bf16) (w : FVec Ideal S2048x7264 .f32) : reference h w = result h w := by
  funext y
  idx_vars y
  pointwise [reference, result, source]
end Reference

/-- The kernel and the reference end with the same array. -/
theorem algebraic : Cert.algebraic_Kernel2Ideal_Reference2Ideal := by
  intro m g m' g' _ hargs
  refine ⟨fun c => result (argH m c) (argW m c), ?_, ?_⟩
  · exact (θ_run Cert.Kernel2Ideal.defs _ _).mono (fun r h c => ⟨(h c).1.trans (kernel_array m c), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1⟩ := hargs c
    rw [e0, e1]
    exact reference_result _ _

end Cert.Projection
end
-- ==== Proof.Values.lean ====
/-
The projection that gives the sparse-attention branch its values and its index queries: columns 5136 to 7184 of the
product of the normalised input with the in-projection's weights.
-/
module

public import proofs.«01_k».proof.Defs
public import proofs.«01_k».proof.Proof.Rows
public import proofs.«01_k».proof.Proof.Gen.Kernel3Ideal.Value
public import proofs.«01_k».proof.Proof.Gen.Reference3Ideal.Run

@[expose] public section
set_option maxRecDepth 100000

noncomputable section
namespace Cert.Values

open Cert.Dense Idealize.ShloMosaic Idealize.ShloMosaic.TcCoe Idealize.SL.Sem

/-- Column `k` of the result in the in-projection. -/
def source (k : Fin 2048) : Fin 7264 := ⟨5136 + k.val, by omega⟩

/-- The projection from the normalised input and the in-projection's weights. -/
def result (h : FVec Ideal ⟨2, ![32768, 2048]⟩ .bf16) (w : FVec Ideal ⟨2, ![2048, 7264]⟩ .f32) : FVec Ideal ⟨2, ![32768, 2048]⟩ .bf16 :=
  fun y => ∑ q : Fin 2048, h (ix2 (y 0) q) * w (ix2 q (source (y 1)))

section Kernel
open Cert.Kernel3Ideal Cert.Kernel3Ideal.Gen

/-- What a launch leaves in its output block. -/
theorem block_at (x0 : Vec Ideal S1024x2048 .bf16) (x1 : Vec Ideal S2048x512 .bf16) (r : Fin 1024) (k : Fin 512) :
    out0_2 x0 x1 (ix2 r k) = ∑ q : Fin 2048, x0 (ix2 r q) * x1 (ix2 q k) := by
  unfold out0_2
  refine canon_rows (Val := Elt Ideal) (e := .bf16) _ _ _ _ _ _ _ _ (fun r k => ∑ q : Fin 2048, x0 (ix2 r q) * x1 (ix2 q k)) ?_ ?_ ?_ ?_ r k
  all_goals intro r k
  · pointwise [k0_pay1, rowFrom]
  · pointwise [k0_pay2, rowFrom]
  · pointwise [k0_pay3, rowFrom]
  · pointwise [k0_pay4, rowFrom]

/-- The block every window stages at grid point `t`. -/
theorem idx (t : Fin cfg0.N) : win0_0.index t = ![t.val / 4, 0] ∧ win0_1.index t = ![0, t.val % 4] ∧ win0_2.index t = ![t.val / 4, t.val % 4] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The in-projection's weights. -/
def argW : FVec Ideal S2048x7264 .f32 := m ((c : Thread nD τ).loc main_arg1)

/-- Row `r` of grid point `t`'s rows, and column `k` of its columns. -/
def rowOf (t : Fin cfg0.N) (r : Fin 1024) : Fin 32768 := ⟨1024 * (t.val / 4) + r.val, by have := lt_of_lt_of_eq t.isLt N_0; omega⟩
/-- The result column of a launch's column. -/
def colOf (t : Fin cfg0.N) (k : Fin 512) : Fin 2048 := ⟨512 * (t.val % 4) + k.val, by omega⟩

/-- What a launch loads. -/
theorem h_at (t : Fin cfg0.N) (r : Fin 1024) (q : Fin 2048) : iblk m c 0 t (ix2 r q) = argH m c (ix2 (rowOf t r) q) := by
  obtain ⟨e0, e1, e2⟩ := idx t
  pointwise [argH]
  blk_ext [iblk, V_main_arg0, e0, rowOf]

/-- A launch loads the weights of its own columns. -/
theorem w_at (t : Fin cfg0.N) (q : Fin 2048) (k : Fin 512) : iblk m c 1 t (ix2 q k) = argW m c (ix2 q (source (colOf t k))) := by
  obtain ⟨e0, e1, e2⟩ := idx t
  have he : (win0_1.blk t).view.emb (ix2 q k) = ix2 q (colOf t k) := by blk_ext [e1, colOf]
  have hv : V m c main_v1 (ix2 q (colOf t k)) = argW m c (ix2 q (source (colOf t k))) := by
    entry_read
    pointwise [argW, source]
  exact (congrArg (V m c main_v1) he).trans hv

/-- The final array is the projection. -/
theorem kernel_array : (dats m 0 c).arrAt 2 cfg0.N = result (argH m c) (argW m c) := by
  refine (dats m 0 c).arrAt_eq_of_covers 2 _ (by decide +kernel) fun t hfl y => ?_
  obtain ⟨e0, e1, e2⟩ := idx t
  blk_simp
  rw [after0_2]
  have hy : y = ix2 (y 0) (y 1) := by
    funext a
    match a with
    | 0 => rfl
    | 1 => rfl
  have he : (win0_2.blk t).view.emb y = ix2 (rowOf t (y 0)) (colOf t (y 1)) :=
    (congrArg _ hy).trans (by blk_ext [e2, rowOf, colOf])
  refine (congrArg (out0_2 _ _) hy).trans ((block_at _ _ (y 0) (y 1)).trans ?_)
  refine Eq.trans ?_ (congrArg (result (argH m c) (argW m c)) he).symm
  exact Finset.sum_congr rfl fun q _ => congrArg₂ (· * ·) (h_at m c t (y 0) q) (w_at m c t q (y 1))
end Kernel

section Reference
open Cert.Reference3Ideal Cert.Reference3Ideal.Gen

/-- The reference's operations on the arguments. -/
def reference (h : FVec Ideal S32768x2048 .bf16) (w : FVec Ideal S2048x7264 .f32) : FVec Ideal S32768x2048 .bf16 :=
  truncf .bf16 (extractStridedSlice S32768x2048 ![0, 5136]
    (Host.dotGeneral (F := Ideal) dot_S32768x2048_S2048x7264_S32768x7264_1_0_0_1_n_n none (extf .f32 h bitsLt_bf16_f32) w)
    slices_S32768x7264_S32768x2048_0_5136) bitsLt_bf16_f32

/-- The reference's operations on the arguments are the projection. -/
theorem reference_result (h : FVec Ideal S32768x2048 .bf16) (w : FVec Ideal S2048x7264 .f32) : reference h w = result h w := by
  funext y
  idx_vars y
  pointwise [reference, result, source]
end Reference

/-- The kernel and the reference end with the same array. -/
theorem algebraic : Cert.algebraic_Kernel3Ideal_Reference3Ideal := by
  intro m g m' g' _ hargs
  refine ⟨fun c => result (argH m c) (argW m c), ?_, ?_⟩
  · exact (θ_run Cert.Kernel3Ideal.defs _ _).mono (fun r h c => ⟨(h c).1.trans (kernel_array m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    obtain ⟨e0, e1⟩ := hargs c
    rw [e0, e1]
    exact reference_result _ _

end Cert.Values
end
-- ==== Proof.Heads.lean ====
/-
The projection that gives the sparse-attention branch its queries and keys, each head divided by its root mean square
and multiplied by a gain.  The kernel multiplies the gain of the queries by the attention's scale beforehand; the
reference multiplies the normalised queries by it.
-/
module

public import proofs.«01_k».proof.Defs
public import proofs.«01_k».proof.Proof.Rows
public import proofs.«01_k».proof.Proof.Gen.Kernel4Ideal.Value
public import proofs.«01_k».proof.Proof.Gen.Reference4Ideal.Run

@[expose] public section
set_option maxRecDepth 100000

noncomputable section
namespace Cert.Heads

open Cert.Dense Idealize.ShloMosaic Idealize.ShloMosaic.TcCoe Idealize.SL.Sem

/-- The attention's scale, and what divides and is added to a head's sum of squares. -/
def scale : EReal := Ideal.ofBits .f32 0x3E0293EE#32
/-- The head width as the programs write it. -/
def width : EReal := Ideal.ofBits .f32 0x43000000#32
/-- The small term under the root as the programs write it. -/
def least : EReal := Ideal.ofBits .f32 0x358637BD#32

/-- Column `k` of a row `s`, divided by the root mean square of the columns `head e` and multiplied by `g`. -/
def normed {n : ℕ} (s : Fin n → EReal) (head : Fin 128 → Fin n) (k : Fin n) (g : EReal) : EReal :=
  s k * Ideal.rsqrt (Ideal.div (∑ e : Fin 128, s (head e) * s (head e)) width + least) * g

/-- Column `e` of the head that column `k` lies in. -/
def headOf {n : ℕ} (hn : n % 128 = 0) (k : Fin n) (e : Fin 128) : Fin n := ⟨128 * (k.val / 128) + e.val, by have := k.isLt; omega⟩

/-- Column `k` in its head, and column `k` of the projection in the in-projection. -/
def inHead (k : Fin 2048) : Fin 128 := ⟨k.val % 128, by omega⟩
/-- The in-projection column that column `k` of the result reads. -/
def source (k : Fin 2048) : Fin 7264 := ⟨3088 + k.val, by omega⟩

/-- What column `k` is multiplied by: the queries' gain with the scale, or the keys' gain. -/
def gain (a b : FVec Ideal ⟨1, ![128]⟩ .f32) (k : Fin 2048) : EReal :=
  if k.val < 1024 then a (ix1 (inHead k)) * scale else b (ix1 (inHead k))

/-- The projection before its normalisation. -/
def product (h : FVec Ideal ⟨2, ![32768, 2048]⟩ .bf16) (w : FVec Ideal ⟨2, ![2048, 7264]⟩ .f32) (r : Fin 32768) (k : Fin 2048) : EReal :=
  ∑ q : Fin 2048, h (ix2 r q) * w (ix2 q (source k))

/-- The queries and keys from the normalised input, the in-projection's weights and the two gains. -/
def result (h : FVec Ideal ⟨2, ![32768, 2048]⟩ .bf16) (w : FVec Ideal ⟨2, ![2048, 7264]⟩ .f32) (a b : FVec Ideal ⟨1, ![128]⟩ .f32) :
    FVec Ideal ⟨2, ![32768, 2048]⟩ .bf16 :=
  fun y => normed (product h w (y 0)) (headOf (by norm_num) (y 1)) (y 1) (gain a b (y 1))

section Kernel
open Cert.Kernel4Ideal Cert.Kernel4Ideal.Gen

/-- Column `k` of the store that begins at column `o`. -/
def colFrom (o : ℕ) (ho : o + 128 ≤ 512) (k : Fin 128) : Fin 512 := ⟨o + k.val, by omega⟩

/-- A launch's products, before their normalisation. -/
def sums (x0 : Vec Ideal S1024x2048 .bf16) (x1 : Vec Ideal S2048x512 .bf16) (r : Fin 1024) (k : Fin 512) : EReal :=
  ∑ q : Fin 2048, x0 (ix2 r q) * x1 (ix2 q k)

/-- What a launch leaves, as a function of the block's place. -/
def leaves (x0 : Vec Ideal S1024x2048 .bf16) (x1 : Vec Ideal S2048x512 .bf16) (x2 : Vec Ideal S1x512 .f32) (y : S1024x512.Idx) : EReal :=
  normed (sums x0 x1 (y 0)) (headOf (by norm_num) (y 1)) (y 1) (x2 (ix2 0 (y 1)))

/-- A store of 256 rows and one head that agrees entry by entry agrees where it lies in the block. -/
theorem tile_agrees (b o : ℕ) (hb : b + 256 ≤ 1024) (ho : o + 128 ≤ 512) (h0 : o % 128 = 0) (inb) (w : S256x128.Idx → EReal)
    (x0 : Vec Ideal S1024x2048 .bf16) (x1 : Vec Ideal S2048x512 .bf16) (x2 : Vec Ideal S1x512 .f32)
    (h : ∀ r k, w (ix2 r k) = normed (sums x0 x1 (rowFrom b hb r)) (colFrom o ho) (colFrom o ho k) (x2 (ix2 0 (colFrom o ho k)))) (x : S256x128.Idx) :
    w x = leaves x0 x1 x2 ((Rect.unit (s := S1024x512) ![b, o] S256x128.size inb).emb x) := by
  have hx : x = ix2 (x 0) (x 1) := by
    funext a
    match a with
    | 0 => rfl
    | 1 => rfl
  have he : (Rect.unit (s := S1024x512) ![b, o] S256x128.size inb).emb x = ix2 (rowFrom b hb (x 0)) (colFrom o ho (x 1)) := by
    funext a
    match a with
    | 0 => exact Fin.ext (by show b + 1 * (x 0).val = b + (x 0).val; omega)
    | 1 => exact Fin.ext (by show o + 1 * (x 1).val = o + (x 1).val; omega)
  have hh : colFrom o ho = headOf (by norm_num) (colFrom o ho (x 1)) := by
    funext e
    refine Fin.ext ?_
    show o + e.val = 128 * ((o + (x 1).val) / 128) + e.val
    have : (x 1).val < 128 := (x 1).isLt
    omega
  refine (congrArg w hx).trans ((h _ _).trans (Eq.trans ?_ (congrArg (leaves x0 x1 x2) he).symm))
  exact congrArg (fun d => normed (sums x0 x1 (rowFrom b hb (x 0))) d (colFrom o ho (x 1)) (x2 (ix2 0 (colFrom o ho (x 1))))) hh

/-- What a launch leaves in its output block. -/
theorem block_at (x0 : Vec Ideal S1024x2048 .bf16) (x1 : Vec Ideal S2048x512 .bf16) (x2 : Vec Ideal S1x512 .f32) (y : S1024x512.Idx) :
    out0_3 x0 x1 x2 y = leaves x0 x1 x2 y := by
  unfold out0_3
  refine View.canon_apply_of_pieces (Val := Elt Ideal) (e := .bf16) (leaves x0 x1 x2) _ ?_ y (cover0_3 _ _ _ _ _ _ _ _ _ _ _ _ _ _ _ _ y)
  simp only [List.forall_mem_cons, List.not_mem_nil, false_imp_iff, implies_true, and_true]
  refine ⟨tile_agrees 768 384 (by norm_num) (by norm_num) (by norm_num) _ _ _ _ _ ?_, tile_agrees 768 256 (by norm_num) (by norm_num) (by norm_num) _ _ _ _ _ ?_,
    tile_agrees 768 128 (by norm_num) (by norm_num) (by norm_num) _ _ _ _ _ ?_, tile_agrees 768 0 (by norm_num) (by norm_num) (by norm_num) _ _ _ _ _ ?_,
    tile_agrees 512 384 (by norm_num) (by norm_num) (by norm_num) _ _ _ _ _ ?_, tile_agrees 512 256 (by norm_num) (by norm_num) (by norm_num) _ _ _ _ _ ?_,
    tile_agrees 512 128 (by norm_num) (by norm_num) (by norm_num) _ _ _ _ _ ?_, tile_agrees 512 0 (by norm_num) (by norm_num) (by norm_num) _ _ _ _ _ ?_,
    tile_agrees 256 384 (by norm_num) (by norm_num) (by norm_num) _ _ _ _ _ ?_, tile_agrees 256 256 (by norm_num) (by norm_num) (by norm_num) _ _ _ _ _ ?_,
    tile_agrees 256 128 (by norm_num) (by norm_num) (by norm_num) _ _ _ _ _ ?_, tile_agrees 256 0 (by norm_num) (by norm_num) (by norm_num) _ _ _ _ _ ?_,
    tile_agrees 0 384 (by norm_num) (by norm_num) (by norm_num) _ _ _ _ _ ?_, tile_agrees 0 256 (by norm_num) (by norm_num) (by norm_num) _ _ _ _ _ ?_,
    tile_agrees 0 128 (by norm_num) (by norm_num) (by norm_num) _ _ _ _ _ ?_, tile_agrees 0 0 (by norm_num) (by norm_num) (by norm_num) _ _ _ _ _ ?_⟩
  all_goals intro r k
  · pointwise [k0_pay1, k0_pay27, k0_pay28, k0_pay29, k0_pay33, k0_pay15, normed, sums, rowFrom, colFrom, width, least]
  · pointwise [k0_pay26, k0_pay33, k0_pay15, normed, sums, rowFrom, colFrom, width, least]
  · pointwise [k0_pay25, k0_pay33, k0_pay15, normed, sums, rowFrom, colFrom, width, least]
  · pointwise [k0_pay24, k0_pay33, k0_pay15, normed, sums, rowFrom, colFrom, width, least]
  · pointwise [k0_pay23, k0_pay32, k0_pay9, normed, sums, rowFrom, colFrom, width, least]
  · pointwise [k0_pay20, k0_pay21, k0_pay22, k0_pay32, k0_pay9, normed, sums, rowFrom, colFrom, width, least]
  · pointwise [k0_pay19, k0_pay32, k0_pay9, normed, sums, rowFrom, colFrom, width, least]
  · pointwise [k0_pay16, k0_pay17, k0_pay18, k0_pay32, k0_pay9, normed, sums, rowFrom, colFrom, width, least]
  · pointwise [k0_pay14, k0_pay31, k0_pay3, normed, sums, rowFrom, colFrom, width, least]
  · pointwise [k0_pay12, k0_pay13, k0_pay31, k0_pay3, normed, sums, rowFrom, colFrom, width, least]
  · pointwise [k0_pay11, k0_pay31, k0_pay3, normed, sums, rowFrom, colFrom, width, least]
  · pointwise [k0_pay10, k0_pay31, k0_pay3, normed, sums, rowFrom, colFrom, width, least]
  · pointwise [k0_pay8, k0_pay30, k0_pay2, normed, sums, rowFrom, colFrom, width, least]
  · pointwise [k0_pay7, k0_pay30, k0_pay2, normed, sums, rowFrom, colFrom, width, least]
  · pointwise [k0_pay5, k0_pay6, k0_pay2, normed, sums, rowFrom, colFrom, width, least]
  · pointwise [k0_pay4, k0_pay2, normed, sums, rowFrom, colFrom, width, least]

/-- The block every window stages at grid point `t`. -/
theorem idx (t : Fin cfg0.N) : win0_0.index t = ![t.val / 4, 0] ∧ win0_1.index t = ![0, t.val % 4] ∧ win0_2.index t = ![0, t.val % 4]
    ∧ win0_3.index t = ![t.val / 4, t.val % 4] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The in-projection's weights. -/
def argW : FVec Ideal S2048x7264 .f32 := m ((c : Thread nD τ).loc main_arg1)
/-- The queries' norm weight. -/
def argA : FVec Ideal S128 .f32 := m ((c : Thread nD τ).loc main_arg2)
/-- The keys' norm weight. -/
def argB : FVec Ideal S128 .f32 := m ((c : Thread nD τ).loc main_arg3)

/-- Row `r` of grid point `t`'s rows, and column `k` of its columns. -/
def rowOf (t : Fin cfg0.N) (r : Fin 1024) : Fin 32768 := ⟨1024 * (t.val / 4) + r.val, by have := lt_of_lt_of_eq t.isLt N_0; omega⟩
/-- The result column of a launch's column. -/
def colOf (t : Fin cfg0.N) (k : Fin 512) : Fin 2048 := ⟨512 * (t.val % 4) + k.val, by omega⟩

/-- What a launch loads of the normalised input and of the weights. -/
theorem h_at (t : Fin cfg0.N) (r : Fin 1024) (q : Fin 2048) : iblk m c 0 t (ix2 r q) = argH m c (ix2 (rowOf t r) q) := by
  obtain ⟨e0, e1, e2, e3⟩ := idx t
  pointwise [argH]
  blk_ext [iblk, V_main_arg0, e0, rowOf]

/-- A launch loads the weights of its own columns. -/
theorem w_at (t : Fin cfg0.N) (q : Fin 2048) (k : Fin 512) : iblk m c 1 t (ix2 q k) = argW m c (ix2 q (source (colOf t k))) := by
  obtain ⟨e0, e1, e2, e3⟩ := idx t
  have he : (win0_1.blk t).view.emb (ix2 q k) = ix2 q (colOf t k) := by blk_ext [e1, colOf]
  have hv : V m c main_v1 (ix2 q (colOf t k)) = argW m c (ix2 q (source (colOf t k))) := by
    entry_read
    pointwise [argW, source]
  exact (congrArg (V m c main_v1) he).trans hv

/-- The gains the launches read, as the host joins them. -/
def gains (a b : FVec Ideal S128 .f32) : FVec Ideal S1x2048 .f32 :=
  shapeCast _ (concatenate S2048 0
    [⟨S1024, shapeCast S1024 (broadcastInDim S8x128 ![0, 1] bcast_S1x128_S8x128_0_1
      (shapeCast S1x128 (mulf a (broadcastInDim S128 ![] bcast_S_S128 (constant (F := Ideal) S_ .f32 0x3E0293EE#32))) shapeCasts_S128_S1x128)) shapeCasts_S8x128_S1024⟩,
     ⟨S1024, shapeCast S1024 (broadcastInDim S8x128 ![0, 1] bcast_S1x128_S8x128_0_1 (shapeCast S1x128 b shapeCasts_S128_S1x128)) shapeCasts_S8x128_S1024⟩]
    concatenates_S1024_S1024_S2048_d0) shapeCasts_S2048_S1x2048

/-- The launches read `gains` of the arguments. -/
theorem gains_found : V m c main_v11 = gains (argA m c) (argB m c) := by
  unfold V hostOps0
  after_results <;> rfl

/-- The gain of a column. -/
theorem gains_at (a b : FVec Ideal S128 .f32) (k : Fin 2048) : gains a b (ix2 0 k) = gain a b k := by
  pointwise [gains, gain, inHead, scale]
  by_cases hk : k.val < 1024
  · simp only [hk, dite_true, if_true]
  · simp only [hk, dite_false, if_false, show (k.val - 1024) % 128 = k.val % 128 by omega]

/-- What a launch loads of the gains. -/
theorem g_at (t : Fin cfg0.N) (k : Fin 512) : iblk m c 2 t (ix2 0 k) = gain (argA m c) (argB m c) (colOf t k) := by
  obtain ⟨e0, e1, e2, e3⟩ := idx t
  have he : (win0_2.blk t).view.emb (ix2 0 k) = ix2 0 (colOf t k) := by blk_ext [e2, colOf]
  exact (congrArg (V m c main_v11) he).trans ((congrFun (gains_found m c) _).trans (gains_at _ _ _))

/-- The columns of column `k`'s head in the block are those of its head in the array. -/
theorem head_col (t : Fin cfg0.N) (k : Fin 512) (e : Fin 128) :
    colOf t (headOf (by norm_num) k e) = headOf (by norm_num) (colOf t k) e := by
  refine Fin.ext ?_
  show 512 * (t.val % 4) + (128 * (k.val / 128) + e.val) = 128 * ((512 * (t.val % 4) + k.val) / 128) + e.val
  omega

/-- The final array is the queries and keys. -/
theorem kernel_array : (dats m 0 c).arrAt 3 cfg0.N = result (argH m c) (argW m c) (argA m c) (argB m c) := by
  refine (dats m 0 c).arrAt_eq_of_covers 3 _ (by decide +kernel) fun t hfl y => ?_
  obtain ⟨e0, e1, e2, e3⟩ := idx t
  blk_simp
  rw [after0_3]
  have hy : y = ix2 (y 0) (y 1) := by
    funext a
    match a with
    | 0 => rfl
    | 1 => rfl
  have he : (win0_3.blk t).view.emb y = ix2 (rowOf t (y 0)) (colOf t (y 1)) :=
    (congrArg _ hy).trans (by blk_ext [e3, rowOf, colOf])
  have hs : ∀ k : Fin 512, sums (iblk m c 0 t) (iblk m c 1 t) (y 0) k = product (argH m c) (argW m c) (rowOf t (y 0)) (colOf t k) :=
    fun k => Finset.sum_congr rfl fun q _ => congrArg₂ (· * ·) (h_at m c t (y 0) q) (w_at m c t q k)
  have hh : ∀ e : Fin 128, sums (iblk m c 0 t) (iblk m c 1 t) (y 0) (headOf (by norm_num) (y 1) e)
      = product (argH m c) (argW m c) (rowOf t (y 0)) (headOf (by norm_num) (colOf t (y 1)) e) :=
    fun e => (hs _).trans (congrArg (product (argH m c) (argW m c) (rowOf t (y 0))) (head_col t (y 1) e))
  refine (block_at _ _ _ y).trans (Eq.trans ?_ (congrArg (result (argH m c) (argW m c) (argA m c) (argB m c)) he).symm)
  exact congrArg₂ (· * ·) (congrArg₂ (· * ·) (hs (y 1)) (congrArg (fun u => Ideal.rsqrt (Ideal.div u width + least))
    (Finset.sum_congr rfl fun e _ => congrArg₂ (· * ·) (hh e) (hh e)))) (g_at m c t (y 1))
end Kernel

section Reference
open Cert.Reference4Ideal Cert.Reference4Ideal.Gen

/-- The reference's in-projection. -/
def whole (h : FVec Ideal S32768x2048 .bf16) (w : FVec Ideal S2048x7264 .f32) : FVec Ideal S32768x7264 .f32 :=
  Host.dotGeneral (F := Ideal) dot_S32768x2048_S2048x7264_S32768x7264_1_0_0_1_n_n none (extf .f32 h bitsLt_bf16_f32) w

/-- The reference's division of every head of `z` by its root mean square, with the gain `g`. -/
def rootMean (z : FVec Ideal S32768x8x128 .f32) (g : FVec Ideal S128 .f32) : FVec Ideal S32768x8x128 .f32 :=
  mulf (mulf z (broadcastInDim S32768x8x128 ![0, 1, 2] bcast_S32768x8x1_S32768x8x128_0_1_2 (Host.rsqrt (addf (Host.divf
    (broadcastInDim S32768x8x1 ![0, 1] bcast_S32768x8_S32768x8x1_0_1
      (Host.reduceAdd (mulf z z) (constant (F := Ideal) S_ .f32 0x00000000#32) reducesTo_S32768x8x128_S32768x8_d2 h_S_))
    (broadcastInDim S32768x8x1 ![] bcast_S_S32768x8x1 (constant (F := Ideal) S_ .f32 0x43000000#32)))
    (broadcastInDim S32768x8x1 ![] bcast_S_S32768x8x1 (constant (F := Ideal) S_ .f32 0x358637BD#32))))))
    (broadcastInDim S32768x8x128 ![0, 1, 2] bcast_S1x1x128_S32768x8x128_0_1_2 (broadcastInDim S1x1x128 ![2] bcast_S128_S1x1x128_2 g))

/-- The reference's operations on the arguments. -/
def reference (h : FVec Ideal S32768x2048 .bf16) (w : FVec Ideal S2048x7264 .f32) (a b : FVec Ideal S128 .f32) : FVec Ideal S32768x2048 .bf16 :=
  truncf .bf16 (concatenate S32768x2048 1
    [⟨S32768x1024, shapeCast S32768x1024 (mulf
      (rootMean (shapeCast S32768x8x128 (extractStridedSlice S32768x1024 ![0, 3088] (whole h w) slices_S32768x7264_S32768x1024_0_3088) shapeCasts_S32768x1024_S32768x8x128) a)
      (broadcastInDim S32768x8x128 ![] bcast_S_S32768x8x128 (constant (F := Ideal) S_ .f32 0x3E0293EE#32))) shapeCasts_S32768x8x128_S32768x1024⟩,
     ⟨S32768x1024, shapeCast S32768x1024
      (rootMean (shapeCast S32768x8x128 (extractStridedSlice S32768x1024 ![0, 4112] (whole h w) slices_S32768x7264_S32768x1024_0_4112) shapeCasts_S32768x1024_S32768x8x128) b)
      shapeCasts_S32768x8x128_S32768x1024⟩] concatenates_S32768x1024_S32768x1024_S32768x2048_d1) bitsLt_bf16_f32

/-- The reference's operations on the arguments are the queries and keys. -/
theorem reference_result (h : FVec Ideal S32768x2048 .bf16) (w : FVec Ideal S2048x7264 .f32) (a b : FVec Ideal S128 .f32) :
    reference h w a b = result h w a b := by
  funext y
  idx_vars y
  pointwise [reference, rootMean, whole, result, normed, product, gain, headOf, inHead, source, scale, width, least]
  by_cases hk : y1.val < 1024
  · simp only [hk, dite_true, if_true, Nat.div_add_mod, Nat.mul_comm (y1.val / 128) 128]
    exact mul_assoc (G := EReal) _ _ _
  · have e1 : 4112 + ((y1.val - 1024) / 128 * 128 + y1.val % 128) = 3088 + y1.val := by omega
    have e2 : ∀ x : Fin 128, 4112 + ((y1.val - 1024) / 128 * 128 + x.val) = 3088 + (128 * (y1.val / 128) + x.val) := fun x => by omega
    simp only [hk, dite_false, if_false, e1, e2, show (y1.val - 1024) % 128 = y1.val % 128 by omega]
end Reference

/-- The kernel and the reference end with the same array. -/
theorem algebraic : Cert.algebraic_Kernel4Ideal_Reference4Ideal := by
  intro m g m' g' _ hargs
  refine ⟨fun c => result (argH m c) (argW m c) (argA m c) (argB m c), ?_, ?_⟩
  · exact (θ_run Cert.Kernel4Ideal.defs _ _).mono (fun r h c => ⟨(h c).1.trans (kernel_array m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    obtain ⟨e0, e1, e2, e3⟩ := hargs c
    rw [e0, e1, e2, e3]
    exact reference_result _ _ _ _

end Cert.Heads
end
-- ==== Proof.Gates.lean ====
/-
The branch gates: the logistic function of a product with a bias.  The kernel's blocks and the reference's array are
the same function of the arguments.
-/
module

public import proofs.«01_k».proof.Defs
public import proofs.«01_k».proof.Proof.Rows
public import proofs.«01_k».proof.Proof.Gen.Kernel5Ideal.Value
public import proofs.«01_k».proof.Proof.Gen.Reference5Ideal.Run

@[expose] public section
set_option maxRecDepth 100000

noncomputable section
namespace Cert.Gates

open Cert.Dense Idealize.ShloMosaic Idealize.ShloMosaic.TcCoe Idealize.SL.Sem

/-- The gates from the normalised input, the weights and the bias. -/
def result (h : FVec Ideal ⟨2, ![32768, 2048]⟩ .bf16) (w : FVec Ideal ⟨2, ![2048, 4096]⟩ .f32) (b : FVec Ideal ⟨1, ![4096]⟩ .f32) :
    FVec Ideal ⟨2, ![32768, 4096]⟩ .bf16 :=
  fun y => gateOf ((∑ q : Fin 2048, h (ix2 (y 0) q) * w (ix2 q (y 1))) + b (ix1 (y 1)))

section Kernel
open Cert.Kernel5Ideal Cert.Kernel5Ideal.Gen

/-- What a launch leaves in its output block. -/
theorem block_at (x0 : Vec Ideal S1024x2048 .bf16) (x1 : Vec Ideal S2048x512 .bf16) (x2 : Vec Ideal S1x512 .f32) (r : Fin 1024) (k : Fin 512) :
    out0_3 x0 x1 x2 (ix2 r k) = gateOf ((∑ q : Fin 2048, x0 (ix2 r q) * x1 (ix2 q k)) + x2 (ix2 0 k)) := by
  unfold out0_3
  refine canon_rows (Val := Elt Ideal) (e := .bf16) _ _ _ _ _ _ _ _
    (fun r k => gateOf ((∑ q : Fin 2048, x0 (ix2 r q) * x1 (ix2 q k)) + x2 (ix2 0 k))) ?_ ?_ ?_ ?_ r k
  all_goals intro r k
  · pointwise [k0_pay1, gateOf, rowFrom]
  · pointwise [k0_pay3, k0_pay4, gateOf, rowFrom]
  · pointwise [k0_pay2, k0_pay5, gateOf, rowFrom]
  · pointwise [k0_pay6, gateOf, rowFrom]

/-- The block every window stages at grid point `t`. -/
theorem idx (t : Fin cfg0.N) : win0_0.index t = ![t.val / 8, 0] ∧ win0_1.index t = ![0, t.val % 8]
    ∧ win0_2.index t = ![0, t.val % 8] ∧ win0_3.index t = ![t.val / 8, t.val % 8] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The gates' weights. -/
def argW : FVec Ideal S2048x4096 .f32 := m ((c : Thread nD τ).loc main_arg1)
/-- The gates' bias. -/
def argB : FVec Ideal S4096 .f32 := m ((c : Thread nD τ).loc main_arg2)

/-- Row `r` of grid point `t`'s rows, and column `k` of its columns. -/
def rowOf (t : Fin cfg0.N) (r : Fin 1024) : Fin 32768 := ⟨1024 * (t.val / 8) + r.val, by have := lt_of_lt_of_eq t.isLt N_0; omega⟩
/-- The result column of a launch's column. -/
def colOf (t : Fin cfg0.N) (k : Fin 512) : Fin 4096 := ⟨512 * (t.val % 8) + k.val, by omega⟩

/-- What a launch loads. -/
theorem h_at (t : Fin cfg0.N) (r : Fin 1024) (q : Fin 2048) : iblk m c 0 t (ix2 r q) = argH m c (ix2 (rowOf t r) q) := by
  obtain ⟨e0, e1, e2, e3⟩ := idx t
  pointwise [argH]
  blk_ext [iblk, V_main_arg0, e0, rowOf]

/-- A launch loads the weights of its own columns. -/
theorem w_at (t : Fin cfg0.N) (q : Fin 2048) (k : Fin 512) : iblk m c 1 t (ix2 q k) = argW m c (ix2 q (colOf t k)) := by
  obtain ⟨e0, e1, e2, e3⟩ := idx t
  have he : (win0_1.blk t).view.emb (ix2 q k) = ix2 q (colOf t k) := by blk_ext [e1, colOf]
  have hv : V m c main_v0 (ix2 q (colOf t k)) = argW m c (ix2 q (colOf t k)) := by
    entry_read
    pointwise [argW]
  exact (congrArg (V m c main_v0) he).trans hv

/-- A launch loads the bias of its own columns. -/
theorem b_at (t : Fin cfg0.N) (k : Fin 512) : iblk m c 2 t (ix2 0 k) = argB m c (ix1 (colOf t k)) := by
  obtain ⟨e0, e1, e2, e3⟩ := idx t
  have he : (win0_2.blk t).view.emb (ix2 0 k) = ix2 0 (colOf t k) := by blk_ext [e2, colOf]
  have hv : V m c main_v1 (ix2 0 (colOf t k)) = argB m c (ix1 (colOf t k)) := by
    entry_read
    pointwise [argB]
  exact (congrArg (V m c main_v1) he).trans hv

/-- The final array is the gates. -/
theorem kernel_array : (dats m 0 c).arrAt 3 cfg0.N = result (argH m c) (argW m c) (argB m c) := by
  refine (dats m 0 c).arrAt_eq_of_covers 3 _ (by decide +kernel) fun t hfl y => ?_
  obtain ⟨e0, e1, e2, e3⟩ := idx t
  blk_simp
  rw [after0_3]
  have hy : y = ix2 (y 0) (y 1) := by
    funext a
    match a with
    | 0 => rfl
    | 1 => rfl
  have he : (win0_3.blk t).view.emb y = ix2 (rowOf t (y 0)) (colOf t (y 1)) :=
    (congrArg _ hy).trans (by blk_ext [e3, rowOf, colOf])
  refine (congrArg (out0_3 _ _ _) hy).trans ((block_at _ _ _ (y 0) (y 1)).trans ?_)
  refine Eq.trans ?_ (congrArg (result (argH m c) (argW m c) (argB m c)) he).symm
  exact congrArg gateOf (congrArg₂ (· + ·) (Finset.sum_congr rfl fun q _ => congrArg₂ (· * ·) (h_at m c t (y 0) q) (w_at m c t q (y 1))) (b_at m c t (y 1)))
end Kernel

section Reference
open Cert.Reference5Ideal Cert.Reference5Ideal.Gen

/-- The reference's operations on the arguments. -/
def reference (h : FVec Ideal S32768x2048 .bf16) (w : FVec Ideal S2048x4096 .f32) (b : FVec Ideal S4096 .f32) : FVec Ideal S32768x4096 .bf16 :=
  truncf .bf16 (Host.divf (broadcastInDim S32768x4096 ![] bcast_S_S32768x4096 (constant (F := Ideal) S_ .f32 0x3F800000#32))
    (addf (broadcastInDim S32768x4096 ![] bcast_S_S32768x4096 (constant (F := Ideal) S_ .f32 0x3F800000#32))
      (Host.exp (Host.negf (addf (Host.dotGeneral dot_S32768x2048_S2048x4096_S32768x4096_1_0_0_1_n_n none (extf .f32 h bitsLt_bf16_f32) w)
        (broadcastInDim S32768x4096 ![0, 1] bcast_S1x4096_S32768x4096_0_1 (broadcastInDim S1x4096 ![1] bcast_S4096_S1x4096_1 b))))))) bitsLt_bf16_f32
/-- The reference's operations on the arguments are the gates. -/
theorem reference_result (h : FVec Ideal S32768x2048 .bf16) (w : FVec Ideal S2048x4096 .f32) (b : FVec Ideal S4096 .f32) :
    reference h w b = result h w b := by
  funext y
  idx_vars y
  pointwise [reference, result, gateOf]
  exact congrArg (fun u => Ideal.div 1 (1 + Ideal.exp u)) (zero_sub _).symm

end Reference

/-- The kernel and the reference end with the same array. -/
theorem algebraic : Cert.algebraic_Kernel5Ideal_Reference5Ideal := by
  intro m g m' g' _ hargs
  refine ⟨fun c => result (argH m c) (argW m c) (argB m c), ?_, ?_⟩
  · exact (θ_run Cert.Kernel5Ideal.defs _ _).mono (fun r h c => ⟨(h c).1.trans (kernel_array m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    obtain ⟨e0, e1, e2⟩ := hargs c
    rw [e0, e1, e2]
    exact reference_result _ _ _

end Cert.Gates
end
-- ==== Proof.Mix.lean ====
/-
The gated sum of the two branches' output projections.  The kernel reads both halves of one array of gates through two
windows; the reference splits the array.
-/
module

public import proofs.«01_k».proof.Defs
public import proofs.«01_k».proof.Proof.Rows
public import proofs.«01_k».proof.Proof.Gen.Kernel6Ideal.Value
public import proofs.«01_k».proof.Proof.Gen.Reference6Ideal.Run

@[expose] public section
set_option maxRecDepth 100000

noncomputable section
namespace Cert.Mix

open Cert.Dense Idealize.ShloMosaic Idealize.ShloMosaic.TcCoe Idealize.SL.Sem

/-- Column `k` of the first branch's gates, and of the second's. -/
def first (k : Fin 2048) : Fin 4096 := ⟨k.val, by omega⟩
/-- The column of the second branch's gate. -/
def second (k : Fin 2048) : Fin 4096 := ⟨2048 + k.val, by omega⟩

/-- The gated sum from the two branches' outputs, their weights and the gates. -/
def result (a b : FVec Ideal ⟨2, ![32768, 1024]⟩ .bf16) (u v : FVec Ideal ⟨2, ![1024, 2048]⟩ .f32) (g : FVec Ideal ⟨2, ![32768, 4096]⟩ .bf16) :
    FVec Ideal ⟨2, ![32768, 2048]⟩ .bf16 :=
  fun y => g (ix2 (y 0) (first (y 1))) * (∑ q : Fin 1024, a (ix2 (y 0) q) * u (ix2 q (y 1)))
    + g (ix2 (y 0) (second (y 1))) * ∑ q : Fin 1024, b (ix2 (y 0) q) * v (ix2 q (y 1))

section Kernel
open Cert.Kernel6Ideal Cert.Kernel6Ideal.Gen

/-- What a launch leaves in its output block. -/
theorem block_at (x0 x1 : Vec Ideal S1024x1024 .bf16) (x2 x3 x4 x5 : Vec Ideal S1024x512 .bf16) (r : Fin 1024) (k : Fin 512) :
    out0_6 x0 x1 x2 x3 x4 x5 (ix2 r k) = x4 (ix2 r k) * (∑ q : Fin 1024, x0 (ix2 r q) * x2 (ix2 q k))
      + x5 (ix2 r k) * ∑ q : Fin 1024, x1 (ix2 r q) * x3 (ix2 q k) := by
  unfold out0_6
  refine canon_rows (Val := Elt Ideal) (e := .bf16) _ _ _ _ _ _ _ _
    (fun r k => x4 (ix2 r k) * (∑ q : Fin 1024, x0 (ix2 r q) * x2 (ix2 q k)) + x5 (ix2 r k) * ∑ q : Fin 1024, x1 (ix2 r q) * x3 (ix2 q k))
    ?_ ?_ ?_ ?_ r k
  all_goals intro r k
  · pointwise [k0_pay4, rowFrom]
  · pointwise [k0_pay2, k0_pay3, k0_pay5, rowFrom]
  · pointwise [k0_pay8, rowFrom]
  · pointwise [k0_pay1, k0_pay6, k0_pay7, rowFrom]

/-- The block every window stages at grid point `t`. -/
theorem idx (t : Fin cfg0.N) : win0_0.index t = ![t.val / 4, 0] ∧ win0_1.index t = ![t.val / 4, 0] ∧ win0_2.index t = ![0, t.val % 4]
    ∧ win0_3.index t = ![0, t.val % 4] ∧ win0_4.index t = ![t.val / 4, t.val % 4] ∧ win0_5.index t = ![t.val / 4, t.val % 4 + 4]
    ∧ win0_6.index t = ![t.val / 4, t.val % 4] := by
  revert t
  decide +kernel

variable (m : (ℓ : Loc nD τ sig) → Buf (Elt Ideal) ℓ) (c : Dev nD)

/-- The arguments on device `c`. -/
def argA : FVec Ideal S32768x1024 .bf16 := m ((c : Thread nD τ).loc main_arg0)
/-- The second branch's output. -/
def argB : FVec Ideal S32768x1024 .bf16 := m ((c : Thread nD τ).loc main_arg1)
/-- The first branch's output projection. -/
def argU : FVec Ideal S1024x2048 .f32 := m ((c : Thread nD τ).loc main_arg2)
/-- The second branch's output projection. -/
def argV : FVec Ideal S1024x2048 .f32 := m ((c : Thread nD τ).loc main_arg3)
/-- The gates of both branches. -/
def argG : FVec Ideal S32768x4096 .bf16 := m ((c : Thread nD τ).loc main_arg4)

/-- Row `r` of grid point `t`'s rows, and column `k` of its columns. -/
def rowOf (t : Fin cfg0.N) (r : Fin 1024) : Fin 32768 := ⟨1024 * (t.val / 4) + r.val, by have := lt_of_lt_of_eq t.isLt N_0; omega⟩
/-- The result column of a launch's column. -/
def colOf (t : Fin cfg0.N) (k : Fin 512) : Fin 2048 := ⟨512 * (t.val % 4) + k.val, by omega⟩

/-- What a launch loads. -/
theorem a_at (t : Fin cfg0.N) (r : Fin 1024) (q : Fin 1024) : iblk m c 0 t (ix2 r q) = argA m c (ix2 (rowOf t r) q) := by
  obtain ⟨e0, e1, e2, e3, e4, e5, e6⟩ := idx t
  pointwise [argA]
  blk_ext [iblk, V_main_arg0, e0, rowOf]

/-- A launch loads its own rows of the second branch. -/
theorem b_at (t : Fin cfg0.N) (r : Fin 1024) (q : Fin 1024) : iblk m c 1 t (ix2 r q) = argB m c (ix2 (rowOf t r) q) := by
  obtain ⟨e0, e1, e2, e3, e4, e5, e6⟩ := idx t
  pointwise [argB]
  blk_ext [iblk, V_main_arg1, e1, rowOf]

/-- A launch loads its own columns of the first output projection. -/
theorem u_at (t : Fin cfg0.N) (q : Fin 1024) (k : Fin 512) : iblk m c 2 t (ix2 q k) = argU m c (ix2 q (colOf t k)) := by
  obtain ⟨e0, e1, e2, e3, e4, e5, e6⟩ := idx t
  have he : (win0_2.blk t).view.emb (ix2 q k) = ix2 q (colOf t k) := by blk_ext [e2, colOf]
  have hv : V m c main_v0 (ix2 q (colOf t k)) = argU m c (ix2 q (colOf t k)) := by
    entry_read
    pointwise [argU]
  exact (congrArg (V m c main_v0) he).trans hv

/-- A launch loads its own columns of the second output projection. -/
theorem v_at (t : Fin cfg0.N) (q : Fin 1024) (k : Fin 512) : iblk m c 3 t (ix2 q k) = argV m c (ix2 q (colOf t k)) := by
  obtain ⟨e0, e1, e2, e3, e4, e5, e6⟩ := idx t
  have he : (win0_3.blk t).view.emb (ix2 q k) = ix2 q (colOf t k) := by blk_ext [e3, colOf]
  have hv : V m c main_v1 (ix2 q (colOf t k)) = argV m c (ix2 q (colOf t k)) := by
    entry_read
    pointwise [argV]
  exact (congrArg (V m c main_v1) he).trans hv

/-- A launch loads the first branch's gates of its own tile. -/
theorem first_at (t : Fin cfg0.N) (r : Fin 1024) (k : Fin 512) : iblk m c 4 t (ix2 r k) = argG m c (ix2 (rowOf t r) (first (colOf t k))) := by
  obtain ⟨e0, e1, e2, e3, e4, e5, e6⟩ := idx t
  pointwise [argG]
  blk_ext [iblk, V_main_arg4, e4, rowOf, colOf, first]

/-- A launch loads the second branch's gates of its own tile. -/
theorem second_at (t : Fin cfg0.N) (r : Fin 1024) (k : Fin 512) : iblk m c 5 t (ix2 r k) = argG m c (ix2 (rowOf t r) (second (colOf t k))) := by
  obtain ⟨e0, e1, e2, e3, e4, e5, e6⟩ := idx t
  pointwise [argG]
  blk_ext [iblk, V_main_arg4, e5, rowOf, colOf, second]

/-- The final array is the gated sum. -/
theorem kernel_array : (dats m 0 c).arrAt 6 cfg0.N = result (argA m c) (argB m c) (argU m c) (argV m c) (argG m c) := by
  refine (dats m 0 c).arrAt_eq_of_covers 6 _ (by decide +kernel) fun t hfl y => ?_
  obtain ⟨e0, e1, e2, e3, e4, e5, e6⟩ := idx t
  blk_simp
  rw [after0_6]
  have hy : y = ix2 (y 0) (y 1) := by
    funext a
    match a with
    | 0 => rfl
    | 1 => rfl
  have he : (win0_6.blk t).view.emb y = ix2 (rowOf t (y 0)) (colOf t (y 1)) :=
    (congrArg _ hy).trans (by blk_ext [e6, rowOf, colOf])
  refine (congrArg (out0_6 _ _ _ _ _ _) hy).trans ((block_at _ _ _ _ _ _ (y 0) (y 1)).trans ?_)
  refine Eq.trans ?_ (congrArg (result (argA m c) (argB m c) (argU m c) (argV m c) (argG m c)) he).symm
  exact congrArg₂ (· + ·)
    (congrArg₂ (· * ·) (first_at m c t (y 0) (y 1))
      (Finset.sum_congr rfl fun q _ => congrArg₂ (· * ·) (a_at m c t (y 0) q) (u_at m c t q (y 1))))
    (congrArg₂ (· * ·) (second_at m c t (y 0) (y 1))
      (Finset.sum_congr rfl fun q _ => congrArg₂ (· * ·) (b_at m c t (y 0) q) (v_at m c t q (y 1))))
end Kernel

section Reference
open Cert.Reference6Ideal Cert.Reference6Ideal.Gen

/-- The reference's operations on the arguments. -/
def reference (a b : FVec Ideal S32768x1024 .bf16) (u v : FVec Ideal S1024x2048 .f32) (g : FVec Ideal S32768x4096 .bf16) :
    FVec Ideal S32768x2048 .bf16 :=
  truncf .bf16 (addf
    (mulf (extractStridedSlice S32768x2048 ![0, 0] (extf .f32 g bitsLt_bf16_f32) slices_S32768x4096_S32768x2048_0_0)
      (Host.dotGeneral (F := Ideal) dot_S32768x1024_S1024x2048_S32768x2048_1_0_0_1_n_n none (extf .f32 a bitsLt_bf16_f32) u))
    (mulf (extractStridedSlice S32768x2048 ![0, 2048] (extf .f32 g bitsLt_bf16_f32) slices_S32768x4096_S32768x2048_0_2048)
      (Host.dotGeneral (F := Ideal) dot_S32768x1024_S1024x2048_S32768x2048_1_0_0_1_n_n none (extf .f32 b bitsLt_bf16_f32) v))) bitsLt_bf16_f32

/-- The reference's operations on the arguments are the gated sum. -/
theorem reference_result (a b : FVec Ideal S32768x1024 .bf16) (u v : FVec Ideal S1024x2048 .f32) (g : FVec Ideal S32768x4096 .bf16) :
    reference a b u v g = result a b u v g := by
  funext y
  idx_vars y
  pointwise [reference, result, first, second]
end Reference

/-- The kernel and the reference end with the same array. -/
theorem algebraic : Cert.algebraic_Kernel6Ideal_Reference6Ideal := by
  intro m g m' g' _ hargs
  refine ⟨fun c => result (argA m c) (argB m c) (argU m c) (argV m c) (argG m c), ?_, ?_⟩
  · exact (θ_run Cert.Kernel6Ideal.defs _ _).mono (fun r h c => ⟨(h c).1.trans (kernel_array m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    obtain ⟨e0, e1, e2, e3, e4⟩ := hargs c
    rw [e0, e1, e2, e3, e4]
    exact reference_result _ _ _ _ _

end Cert.Mix
end
-- ==== Proof.Output.lean ====
/-
The layer's output projection: a product added to the layer's input.  The kernel adds block by block in rows of all
tokens; the reference keeps batch and position apart until the end.
-/
module

public import proofs.«01_k».proof.Defs
public import proofs.«01_k».proof.Proof.Rows
public import proofs.«01_k».proof.Proof.Gen.Kernel7Ideal.Value
public import proofs.«01_k».proof.Proof.Gen.Reference7Ideal.Run

@[expose] public section
set_option maxRecDepth 100000

noncomputable section
namespace Cert.Output

open Cert.Dense Idealize.ShloMosaic Idealize.ShloMosaic.TcCoe Idealize.SL.Sem

/-- The batch and the position of token `i`. -/
def batch (i : Fin 32768) : Fin 4 := ⟨i.val / 8192, by omega⟩
/-- The place of a row in its sequence. -/
def place (i : Fin 32768) : Fin 8192 := ⟨i.val % 8192, by omega⟩

/-- The residual stream from the mixed branches, the weights and the layer's input. -/
def result (h : FVec Ideal ⟨2, ![32768, 2048]⟩ .bf16) (w : FVec Ideal ⟨2, ![2048, 2048]⟩ .f32) (x : FVec Ideal ⟨3, ![4, 8192, 2048]⟩ .f32) :
    FVec Ideal ⟨2, ![32768, 2048]⟩ .f32 :=
  fun y => x (ix3 (batch (y 0)) (place (y 0)) (y 1)) + ∑ q : Fin 2048, h (ix2 (y 0) q) * w (ix2 q (y 1))

section Kernel
open Cert.Kernel7Ideal Cert.Kernel7Ideal.Gen

/-- What a launch leaves in its output block. -/
theorem block_at (x0 : Vec Ideal S1024x2048 .bf16) (x1 : Vec Ideal S2048x512 .bf16) (x2 : Vec Ideal S1024x512 .f32) (r : Fin 1024) (k : Fin 512) :
    out0_3 x0 x1 x2 (ix2 r k) = x2 (ix2 r k) + ∑ q : Fin 2048, x0 (ix2 r q) * x1 (ix2 q k) := by
  unfold out0_3
  refine canon_rows (Val := Elt Ideal) (e := .f32) _ _ _ _ _ _ _ _
    (fun r k => x2 (ix2 r k) + ∑ q : Fin 2048, x0 (ix2 r q) * x1 (ix2 q k)) ?_ ?_ ?_ ?_ r k
  all_goals intro r k
  · pointwise [k0_pay3, rowFrom]
  · pointwise [k0_pay5, rowFrom]
  · pointwise [k0_pay1, k0_pay4, k0_pay7, rowFrom]
  · pointwise [k0_pay2, k0_pay6, rowFrom]

/-- The block every window stages at grid point `t`. -/
theorem idx (t : Fin cfg0.N) : win0_0.index t = ![t.val / 4, 0] ∧ win0_1.index t = ![0, t.val % 4]
    ∧ win0_2.index t = ![t.val / 4, t.val % 4] ∧ win0_3.index t = ![t.val / 4, t.val % 4] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The output projection. -/
def argW : FVec Ideal S2048x2048 .f32 := m ((c : Thread nD τ).loc main_arg1)
/-- The residual stream. -/
def argX : FVec Ideal S4x8192x2048 .f32 := m ((c : Thread nD τ).loc main_arg2)

/-- Row `r` of grid point `t`'s rows, and column `k` of its columns. -/
def rowOf (t : Fin cfg0.N) (r : Fin 1024) : Fin 32768 := ⟨1024 * (t.val / 4) + r.val, by have := lt_of_lt_of_eq t.isLt N_0; omega⟩
/-- The result column of a launch's column. -/
def colOf (t : Fin cfg0.N) (k : Fin 512) : Fin 2048 := ⟨512 * (t.val % 4) + k.val, by omega⟩

/-- What a launch loads. -/
theorem h_at (t : Fin cfg0.N) (r : Fin 1024) (q : Fin 2048) : iblk m c 0 t (ix2 r q) = argH m c (ix2 (rowOf t r) q) := by
  obtain ⟨e0, e1, e2, e3⟩ := idx t
  pointwise [argH]
  blk_ext [iblk, V_main_arg0, e0, rowOf]

/-- A launch loads the weights of its own columns. -/
theorem w_at (t : Fin cfg0.N) (q : Fin 2048) (k : Fin 512) : iblk m c 1 t (ix2 q k) = argW m c (ix2 q (colOf t k)) := by
  obtain ⟨e0, e1, e2, e3⟩ := idx t
  have he : (win0_1.blk t).view.emb (ix2 q k) = ix2 q (colOf t k) := by blk_ext [e1, colOf]
  have hv : V m c main_v1 (ix2 q (colOf t k)) = argW m c (ix2 q (colOf t k)) := by
    entry_read
    pointwise [argW]
  exact (congrArg (V m c main_v1) he).trans hv

/-- A launch loads the residual stream of its own tile. -/
theorem x_at (t : Fin cfg0.N) (r : Fin 1024) (k : Fin 512) :
    iblk m c 2 t (ix2 r k) = argX m c (ix3 (batch (rowOf t r)) (place (rowOf t r)) (colOf t k)) := by
  obtain ⟨e0, e1, e2, e3⟩ := idx t
  have he : (win0_2.blk t).view.emb (ix2 r k) = ix2 (rowOf t r) (colOf t k) := by blk_ext [e2, rowOf, colOf]
  have hv : V m c main_v0 (ix2 (rowOf t r) (colOf t k)) = argX m c (ix3 (batch (rowOf t r)) (place (rowOf t r)) (colOf t k)) := by
    entry_read
    pointwise [argX, batch, place]
  exact (congrArg (V m c main_v0) he).trans hv

/-- The final array is the residual stream. -/
theorem kernel_array : (dats m 0 c).arrAt 3 cfg0.N = result (argH m c) (argW m c) (argX m c) := by
  refine (dats m 0 c).arrAt_eq_of_covers 3 _ (by decide +kernel) fun t hfl y => ?_
  obtain ⟨e0, e1, e2, e3⟩ := idx t
  blk_simp
  rw [after0_3]
  have hy : y = ix2 (y 0) (y 1) := by
    funext a
    match a with
    | 0 => rfl
    | 1 => rfl
  have he : (win0_3.blk t).view.emb y = ix2 (rowOf t (y 0)) (colOf t (y 1)) :=
    (congrArg _ hy).trans (by blk_ext [e3, rowOf, colOf])
  refine (congrArg (out0_3 _ _ _) hy).trans ((block_at _ _ _ (y 0) (y 1)).trans ?_)
  refine Eq.trans ?_ (congrArg (result (argH m c) (argW m c) (argX m c)) he).symm
  exact congrArg₂ (· + ·) (x_at m c t (y 0) (y 1))
    (Finset.sum_congr rfl fun q _ => congrArg₂ (· * ·) (h_at m c t (y 0) q) (w_at m c t q (y 1)))
end Kernel

section Reference
open Cert.Reference7Ideal Cert.Reference7Ideal.Gen

/-- The reference's operations on the arguments. -/
def reference (h : FVec Ideal S32768x2048 .bf16) (w : FVec Ideal S2048x2048 .f32) (x : FVec Ideal S4x8192x2048 .f32) : FVec Ideal S32768x2048 .f32 :=
  shapeCast _ (addf x (Host.dotGeneral (F := Ideal) dot_S4x8192x2048_S2048x2048_S4x8192x2048_2_0_01_1_n_n none
    (shapeCast _ (extf .f32 h bitsLt_bf16_f32) shapeCasts_S32768x2048_S4x8192x2048) w)) shapeCasts_S4x8192x2048_S32768x2048

/-- The reference's operations on the arguments are the residual stream. -/
theorem reference_result (h : FVec Ideal S32768x2048 .bf16) (w : FVec Ideal S2048x2048 .f32) (x : FVec Ideal S4x8192x2048 .f32) :
    reference h w x = result h w x := by
  funext y
  idx_vars y
  pointwise [reference, result, batch, place]
end Reference

/-- The kernel and the reference end with the same array. -/
theorem algebraic : Cert.algebraic_Kernel7Ideal_Reference7Ideal := by
  intro m g m' g' _ hargs
  refine ⟨fun c => result (argH m c) (argW m c) (argX m c), ?_, ?_⟩
  · exact (θ_run Cert.Kernel7Ideal.defs _ _).mono (fun r h c => ⟨(h c).1.trans (kernel_array m c), (h c).2⟩)
      (Cert.Kernel7Ideal.Value.run_blocks m g)
  · refine (θ_run Cert.Reference7Ideal.defs _ _).mono (fun r h c => ⟨(h c).1.trans ?_, (h c).2⟩) (Cert.Reference7Ideal.Value.run m' g')
    obtain ⟨e0, e1, e2⟩ := hargs c
    rw [e0, e1, e2]
    exact reference_result _ _ _

end Cert.Output
end
-- ==== Proof.Embedding.lean ====
/-
The per-layer embedding added through its gate, which gives the layer's first result.  The kernel works on rows of all
tokens; the reference keeps batch and position apart in the embedding's own product.
-/
module

public import proofs.«01_k».proof.Defs
public import proofs.«01_k».proof.Proof.Rows
public import proofs.«01_k».proof.Proof.Gen.Kernel8Ideal.Value
public import proofs.«01_k».proof.Proof.Gen.Reference8Ideal.Run

@[expose] public section
set_option maxRecDepth 100000

noncomputable section
namespace Cert.Embedding

open Cert.Dense Idealize.ShloMosaic Idealize.ShloMosaic.TcCoe Idealize.SL.Sem

/-- The batch and the position of token `i`. -/
def batch (i : Fin 32768) : Fin 4 := ⟨i.val / 8192, by omega⟩
/-- The place of a row in its sequence. -/
def place (i : Fin 32768) : Fin 8192 := ⟨i.val % 8192, by omega⟩

/-- The layer's result from the normalised stream, the stream, the embedding, the gate's weights and bias, and the
    embedding's weights. -/
def result (h : FVec Ideal ⟨2, ![32768, 2048]⟩ .bf16) (x : FVec Ideal ⟨2, ![32768, 2048]⟩ .f32) (p : FVec Ideal ⟨3, ![4, 8192, 256]⟩ .f32)
    (w : FVec Ideal ⟨2, ![2048, 2048]⟩ .f32) (b : FVec Ideal ⟨1, ![2048]⟩ .f32) (u : FVec Ideal ⟨2, ![256, 2048]⟩ .f32) :
    FVec Ideal ⟨2, ![32768, 2048]⟩ .f32 :=
  fun y => x (ix2 (y 0) (y 1)) + gateOf ((∑ q : Fin 2048, h (ix2 (y 0) q) * w (ix2 q (y 1))) + b (ix1 (y 1)))
    * ∑ q : Fin 256, p (ix3 (batch (y 0)) (place (y 0)) q) * u (ix2 q (y 1))

section Kernel
open Cert.Kernel8Ideal Cert.Kernel8Ideal.Gen

/-- What a launch leaves in its output block. -/
theorem block_at (x0 : Vec Ideal S1024x2048 .bf16) (x1 : Vec Ideal S2048x512 .bf16) (x2 : Vec Ideal S1x512 .f32) (x3 : Vec Ideal S1024x512 .f32)
    (x4 : Vec Ideal S1024x256 .bf16) (x5 : Vec Ideal S256x512 .bf16) (r : Fin 1024) (k : Fin 512) :
    out0_6 x0 x1 x2 x3 x4 x5 (ix2 r k) = x3 (ix2 r k) + gateOf ((∑ q : Fin 2048, x0 (ix2 r q) * x1 (ix2 q k)) + x2 (ix2 0 k))
      * ∑ q : Fin 256, x4 (ix2 r q) * x5 (ix2 q k) := by
  unfold out0_6
  refine canon_rows (Val := Elt Ideal) (e := .f32) _ _ _ _ _ _ _ _
    (fun r k => x3 (ix2 r k) + gateOf ((∑ q : Fin 2048, x0 (ix2 r q) * x1 (ix2 q k)) + x2 (ix2 0 k)) * ∑ q : Fin 256, x4 (ix2 r q) * x5 (ix2 q k))
    ?_ ?_ ?_ ?_ r k
  all_goals intro r k
  · pointwise [k0_pay2, gateOf, rowFrom]
  · pointwise [k0_pay1, k0_pay4, gateOf, rowFrom]
  · pointwise [k0_pay3, k0_pay6, k0_pay7, gateOf, rowFrom]
  · pointwise [k0_pay5, k0_pay8, gateOf, rowFrom]

/-- The block every window stages at grid point `t`. -/
theorem idx (t : Fin cfg0.N) : win0_0.index t = ![t.val / 4, 0] ∧ win0_1.index t = ![0, t.val % 4] ∧ win0_2.index t = ![0, t.val % 4]
    ∧ win0_3.index t = ![t.val / 4, t.val % 4] ∧ win0_4.index t = ![t.val / 4, 0] ∧ win0_5.index t = ![0, t.val % 4]
    ∧ win0_6.index t = ![t.val / 4, t.val % 4] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The residual stream. -/
def argX : FVec Ideal S32768x2048 .f32 := m ((c : Thread nD τ).loc main_arg1)
/-- The per-layer embeddings. -/
def argP : FVec Ideal S4x8192x256 .f32 := m ((c : Thread nD τ).loc main_arg2)
/-- The gate's weights. -/
def argW : FVec Ideal S2048x2048 .f32 := m ((c : Thread nD τ).loc main_arg3)
/-- The gate's bias. -/
def argB : FVec Ideal S2048 .f32 := m ((c : Thread nD τ).loc main_arg4)
/-- The embeddings' projection. -/
def argU : FVec Ideal S256x2048 .f32 := m ((c : Thread nD τ).loc main_arg5)

/-- Row `r` of grid point `t`'s rows, and column `k` of its columns. -/
def rowOf (t : Fin cfg0.N) (r : Fin 1024) : Fin 32768 := ⟨1024 * (t.val / 4) + r.val, by have := lt_of_lt_of_eq t.isLt N_0; omega⟩
/-- The result column of a launch's column. -/
def colOf (t : Fin cfg0.N) (k : Fin 512) : Fin 2048 := ⟨512 * (t.val % 4) + k.val, by omega⟩

/-- What a launch loads. -/
theorem h_at (t : Fin cfg0.N) (r : Fin 1024) (q : Fin 2048) : iblk m c 0 t (ix2 r q) = argH m c (ix2 (rowOf t r) q) := by
  obtain ⟨e0, e1, e2, e3, e4, e5, e6⟩ := idx t
  pointwise [argH]
  blk_ext [iblk, V_main_arg0, e0, rowOf]

/-- A launch loads the gate's weights of its own columns. -/
theorem w_at (t : Fin cfg0.N) (q : Fin 2048) (k : Fin 512) : iblk m c 1 t (ix2 q k) = argW m c (ix2 q (colOf t k)) := by
  obtain ⟨e0, e1, e2, e3, e4, e5, e6⟩ := idx t
  have he : (win0_1.blk t).view.emb (ix2 q k) = ix2 q (colOf t k) := by blk_ext [e1, colOf]
  have hv : V m c main_v0 (ix2 q (colOf t k)) = argW m c (ix2 q (colOf t k)) := by
    entry_read
    pointwise [argW]
  exact (congrArg (V m c main_v0) he).trans hv

/-- A launch loads the bias of its own columns. -/
theorem b_at (t : Fin cfg0.N) (k : Fin 512) : iblk m c 2 t (ix2 0 k) = argB m c (ix1 (colOf t k)) := by
  obtain ⟨e0, e1, e2, e3, e4, e5, e6⟩ := idx t
  have he : (win0_2.blk t).view.emb (ix2 0 k) = ix2 0 (colOf t k) := by blk_ext [e2, colOf]
  have hv : V m c main_v1 (ix2 0 (colOf t k)) = argB m c (ix1 (colOf t k)) := by
    entry_read
    pointwise [argB]
  exact (congrArg (V m c main_v1) he).trans hv

/-- A launch loads the residual stream of its own tile. -/
theorem x_at (t : Fin cfg0.N) (r : Fin 1024) (k : Fin 512) : iblk m c 3 t (ix2 r k) = argX m c (ix2 (rowOf t r) (colOf t k)) := by
  obtain ⟨e0, e1, e2, e3, e4, e5, e6⟩ := idx t
  pointwise [argX]
  blk_ext [iblk, V_main_arg1, e3, rowOf, colOf]

/-- A launch loads its own rows of the embeddings. -/
theorem p_at (t : Fin cfg0.N) (r : Fin 1024) (q : Fin 256) :
    iblk m c 4 t (ix2 r q) = argP m c (ix3 (batch (rowOf t r)) (place (rowOf t r)) q) := by
  obtain ⟨e0, e1, e2, e3, e4, e5, e6⟩ := idx t
  have he : (win0_4.blk t).view.emb (ix2 r q) = ix2 (rowOf t r) q := by blk_ext [e4, rowOf]
  have hv : V m c main_v3 (ix2 (rowOf t r) q) = argP m c (ix3 (batch (rowOf t r)) (place (rowOf t r)) q) := by
    entry_read
    pointwise [argP, batch, place]
  exact (congrArg (V m c main_v3) he).trans hv

/-- A launch loads its own columns of the embeddings' projection. -/
theorem u_at (t : Fin cfg0.N) (q : Fin 256) (k : Fin 512) : iblk m c 5 t (ix2 q k) = argU m c (ix2 q (colOf t k)) := by
  obtain ⟨e0, e1, e2, e3, e4, e5, e6⟩ := idx t
  have he : (win0_5.blk t).view.emb (ix2 q k) = ix2 q (colOf t k) := by blk_ext [e5, colOf]
  have hv : V m c main_v4 (ix2 q (colOf t k)) = argU m c (ix2 q (colOf t k)) := by
    entry_read
    pointwise [argU]
  exact (congrArg (V m c main_v4) he).trans hv

/-- The final array is the layer's result. -/
theorem kernel_array : (dats m 0 c).arrAt 6 cfg0.N = result (argH m c) (argX m c) (argP m c) (argW m c) (argB m c) (argU m c) := by
  refine (dats m 0 c).arrAt_eq_of_covers 6 _ (by decide +kernel) fun t hfl y => ?_
  obtain ⟨e0, e1, e2, e3, e4, e5, e6⟩ := idx t
  blk_simp
  rw [after0_6]
  have hy : y = ix2 (y 0) (y 1) := by
    funext a
    match a with
    | 0 => rfl
    | 1 => rfl
  have he : (win0_6.blk t).view.emb y = ix2 (rowOf t (y 0)) (colOf t (y 1)) :=
    (congrArg _ hy).trans (by blk_ext [e6, rowOf, colOf])
  refine (congrArg (out0_6 _ _ _ _ _ _) hy).trans ((block_at _ _ _ _ _ _ (y 0) (y 1)).trans ?_)
  refine Eq.trans ?_ (congrArg (result (argH m c) (argX m c) (argP m c) (argW m c) (argB m c) (argU m c)) he).symm
  exact congrArg₂ (· + ·) (x_at m c t (y 0) (y 1)) (congrArg₂ (· * ·)
    (congrArg gateOf (congrArg₂ (· + ·) (Finset.sum_congr rfl fun q _ => congrArg₂ (· * ·) (h_at m c t (y 0) q) (w_at m c t q (y 1))) (b_at m c t (y 1))))
    (Finset.sum_congr rfl fun q _ => congrArg₂ (· * ·) (p_at m c t (y 0) q) (u_at m c t q (y 1))))
end Kernel

section Reference
open Cert.Reference8Ideal Cert.Reference8Ideal.Gen

/-- The reference's operations on the arguments. -/
def reference (h : FVec Ideal S32768x2048 .bf16) (x : FVec Ideal S32768x2048 .f32) (p : FVec Ideal S4x8192x256 .f32)
    (w : FVec Ideal S2048x2048 .f32) (b : FVec Ideal S2048 .f32) (u : FVec Ideal S256x2048 .f32) : FVec Ideal S32768x2048 .f32 :=
  addf x (mulf (Host.divf (broadcastInDim S32768x2048 ![] bcast_S_S32768x2048 (constant (F := Ideal) S_ .f32 0x3F800000#32))
    (addf (broadcastInDim S32768x2048 ![] bcast_S_S32768x2048 (constant (F := Ideal) S_ .f32 0x3F800000#32))
      (Host.exp (Host.negf (addf (Host.dotGeneral dot_S32768x2048_S2048x2048_S32768x2048_1_0_0_1_n_n none (extf .f32 h bitsLt_bf16_f32) w)
        (broadcastInDim S32768x2048 ![0, 1] bcast_S1x2048_S32768x2048_0_1 (broadcastInDim S1x2048 ![1] bcast_S2048_S1x2048_1 b)))))))
    (shapeCast _ (Host.dotGeneral (F := Ideal) (φ₁ := .f32) (φ₂ := .f32) dot_S4x8192x256_S256x2048_S4x8192x2048_2_0_01_1_n_n none p u)
      shapeCasts_S4x8192x2048_S32768x2048))

/-- The reference's operations on the arguments are the layer's result. -/
theorem reference_result (h : FVec Ideal S32768x2048 .bf16) (x : FVec Ideal S32768x2048 .f32) (p : FVec Ideal S4x8192x256 .f32)
    (w : FVec Ideal S2048x2048 .f32) (b : FVec Ideal S2048 .f32) (u : FVec Ideal S256x2048 .f32) : reference h x p w b u = result h x p w b u := by
  funext y
  idx_vars y
  pointwise [reference, result, gateOf, batch, place]
  exact congrArg (fun v => x (ix2 y0 y1) + Ideal.div 1 (1 + Ideal.exp v) * _) (zero_sub _).symm
end Reference

/-- The kernel and the reference end with the same array. -/
theorem algebraic : Cert.algebraic_Kernel8Ideal_Reference8Ideal := by
  intro m g m' g' _ hargs
  refine ⟨fun c => result (argH m c) (argX m c) (argP m c) (argW m c) (argB m c) (argU m c), ?_, ?_⟩
  · exact (θ_run Cert.Kernel8Ideal.defs _ _).mono (fun r h c => ⟨(h c).1.trans (kernel_array m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    obtain ⟨e0, e1, e2, e3, e4, e5⟩ := hargs c
    rw [e0, e1, e2, e3, e4, e5]
    exact reference_result _ _ _ _ _ _

end Cert.Embedding
end
-- ==== Proof.Small.lean ====
/-
The projection that gives the gates' low-rank input, the index weights and the index keys in one array of 128 columns.
The kernel multiplies by a weight with 32 columns of zeros; the reference joins columns of one product and zeros.
-/
module

public import proofs.«01_k».proof.Defs
public import proofs.«01_k».proof.Proof.Rows
public import proofs.«01_k».proof.Proof.Gen.Kernel9Ideal.Value
public import proofs.«01_k».proof.Proof.Gen.Reference9Ideal.Run

@[expose] public section
set_option maxRecDepth 100000

noncomputable section
namespace Cert.Small

open Cert.Dense Idealize.ShloMosaic Idealize.ShloMosaic.TcCoe Idealize.SL.Sem

/-- Column `k` of the weights: two runs of sixteen columns, zeros, and a run of sixty-four columns. -/
def column (w : FVec Ideal ⟨2, ![2048, 7264]⟩ .f32) (q : Fin 2048) (k : Fin 128) : EReal :=
  if h : k.val < 16 then w (ix2 q ⟨3072 + k.val, by omega⟩)
  else if h : k.val < 32 then w (ix2 q ⟨7248 + (k.val - 16), by omega⟩)
  else if h : k.val < 64 then 0
  else w (ix2 q ⟨7184 + (k.val - 64), by omega⟩)

/-- The projection from the normalised input and the in-projection's weights. -/
def result (h : FVec Ideal ⟨2, ![32768, 2048]⟩ .bf16) (w : FVec Ideal ⟨2, ![2048, 7264]⟩ .f32) : FVec Ideal ⟨2, ![32768, 128]⟩ .f32 :=
  fun y => ∑ q : Fin 2048, h (ix2 (y 0) q) * column w q (y 1)

section Kernel
open Cert.Kernel9Ideal Cert.Kernel9Ideal.Gen

/-- What a launch leaves in its output block. -/
theorem block_at (x0 : Vec Ideal S1024x2048 .bf16) (x1 : Vec Ideal S2048x128 .bf16) (r : Fin 1024) (k : Fin 128) :
    out0_2 x0 x1 (ix2 r k) = ∑ q : Fin 2048, x0 (ix2 r q) * x1 (ix2 q k) := by
  unfold out0_2
  refine canon_rows (Val := Elt Ideal) (e := .f32) _ _ _ _ _ _ _ _ (fun r k => ∑ q : Fin 2048, x0 (ix2 r q) * x1 (ix2 q k)) ?_ ?_ ?_ ?_ r k
  all_goals intro r k
  · pointwise [k0_pay1, rowFrom]
  · pointwise [k0_pay2, rowFrom]
  · pointwise [k0_pay3, rowFrom]
  · pointwise [k0_pay4, rowFrom]

/-- The block every window stages at grid point `t`. -/
theorem idx (t : Fin cfg0.N) : win0_0.index t = ![t.val, 0] ∧ win0_1.index t = ![0, 0] ∧ win0_2.index t = ![t.val, 0] := by
  revert t
  decide +kernel

variable (m : (ℓ : Loc nD τ sig) → Buf (Elt Ideal) ℓ) (c : Dev nD)

/-- The arguments on device `c`. -/
def argH : FVec Ideal S32768x2048 .bf16 := m ((c : Thread nD τ).loc main_arg0)
/-- The in-projection's weights. -/
def argW : FVec Ideal S2048x7264 .f32 := m ((c : Thread nD τ).loc main_arg1)

/-- Row `r` of grid point `t`'s rows. -/
def rowOf (t : Fin cfg0.N) (r : Fin 1024) : Fin 32768 := ⟨1024 * t.val + r.val, by have := lt_of_lt_of_eq t.isLt N_0; omega⟩

/-- What a launch loads. -/
theorem h_at (t : Fin cfg0.N) (r : Fin 1024) (q : Fin 2048) : iblk m c 0 t (ix2 r q) = argH m c (ix2 (rowOf t r) q) := by
  obtain ⟨e0, e1, e2⟩ := idx t
  pointwise [argH]
  blk_ext [iblk, V_main_arg0, e0, rowOf]

/-- The weights the launches read, as the host joins them. -/
def weights (w : FVec Ideal S2048x7264 .f32) : FVec Ideal S2048x128 .bf16 :=
  truncf .bf16 (concatenate S2048x128 1 [⟨S2048x16, extractStridedSlice S2048x16 ![0, 3072] w slices_S2048x7264_S2048x16_0_3072⟩,
    ⟨S2048x16, extractStridedSlice S2048x16 ![0, 7248] w slices_S2048x7264_S2048x16_0_7248⟩,
    ⟨S2048x32, broadcastInDim S2048x32 ![] bcast_S_S2048x32 (constant (F := Ideal) S_ .f32 0x00000000#32)⟩,
    ⟨S2048x64, extractStridedSlice S2048x64 ![0, 7184] w slices_S2048x7264_S2048x64_0_7184⟩]
    concatenates_S2048x16_S2048x16_S2048x32_S2048x64_S2048x128_d1) bitsLt_bf16_f32

/-- The kernel's weights are the gathered columns. -/
theorem weights_found : V m c main_v5 = weights (argW m c) := by
  unfold V hostOps0
  after_results <;> rfl

/-- The gathered columns, entry by entry. -/
theorem weights_at (w : FVec Ideal S2048x7264 .f32) (q : Fin 2048) (k : Fin 128) : weights w (ix2 q k) = column w q k := by
  pointwise [weights, column]
  by_cases h1 : k.val < 16
  · simp only [h1, dite_true]
  by_cases h2 : k.val < 32
  · simp only [h1, h2, show k.val - 16 < 16 by omega, dite_true, dite_false]
  by_cases h3 : k.val < 64
  · simp only [h1, h2, h3, show ¬ k.val - 16 < 16 by omega, show k.val - 16 - 16 < 32 by omega, dite_true, dite_false]
  · simp only [h1, h2, h3, show ¬ k.val - 16 < 16 by omega, show ¬ k.val - 16 - 16 < 32 by omega, dite_false,
      show k.val - 16 - 16 - 32 = k.val - 64 by omega]

/-- What a launch loads of the weights. -/
theorem w_at (t : Fin cfg0.N) (q : Fin 2048) (k : Fin 128) : iblk m c 1 t (ix2 q k) = column (argW m c) q k := by
  obtain ⟨e0, e1, e2⟩ := idx t
  have he : (win0_1.blk t).view.emb (ix2 q k) = ix2 q k := by blk_ext [e1]
  exact (congrArg (V m c main_v5) he).trans ((congrFun (weights_found m c) _).trans (weights_at _ q k))

/-- The final array is the projection. -/
theorem kernel_array : (dats m 0 c).arrAt 2 cfg0.N = result (argH m c) (argW m c) := by
  refine (dats m 0 c).arrAt_eq_of_covers 2 _ (by decide +kernel) fun t hfl y => ?_
  obtain ⟨e0, e1, e2⟩ := idx t
  blk_simp
  rw [after0_2]
  have hy : y = ix2 (y 0) (y 1) := by
    funext a
    match a with
    | 0 => rfl
    | 1 => rfl
  have he : (win0_2.blk t).view.emb y = ix2 (rowOf t (y 0)) (y 1) :=
    (congrArg _ hy).trans (by blk_ext [e2, rowOf])
  refine (congrArg (out0_2 _ _) hy).trans ((block_at _ _ (y 0) (y 1)).trans ?_)
  refine Eq.trans ?_ (congrArg (result (argH m c) (argW m c)) he).symm
  exact Finset.sum_congr rfl fun q _ => congrArg₂ (· * ·) (h_at m c t (y 0) q) (w_at m c t q (y 1))
end Kernel

section Reference
open Cert.Reference9Ideal Cert.Reference9Ideal.Gen

/-- The whole in-projection, as the reference computes it. -/
def product (h : FVec Ideal S32768x2048 .bf16) (w : FVec Ideal S2048x7264 .f32) : FVec Ideal S32768x7264 .f32 :=
  Host.dotGeneral (F := Ideal) dot_S32768x2048_S2048x7264_S32768x7264_1_0_0_1_n_n none (extf .f32 h bitsLt_bf16_f32) w

/-- The reference's operations on the arguments. -/
def reference (h : FVec Ideal S32768x2048 .bf16) (w : FVec Ideal S2048x7264 .f32) : FVec Ideal S32768x128 .f32 :=
  concatenate S32768x128 1 [⟨S32768x16, extractStridedSlice S32768x16 ![0, 3072] (product h w) slices_S32768x7264_S32768x16_0_3072⟩,
    ⟨S32768x16, extractStridedSlice S32768x16 ![0, 7248] (product h w) slices_S32768x7264_S32768x16_0_7248⟩,
    ⟨S32768x32, broadcastInDim S32768x32 ![] bcast_S_S32768x32 (constant (F := Ideal) S_ .f32 0x00000000#32)⟩,
    ⟨S32768x64, extractStridedSlice S32768x64 ![0, 7184] (product h w) slices_S32768x7264_S32768x64_0_7184⟩]
    concatenates_S32768x16_S32768x16_S32768x32_S32768x64_S32768x128_d1

/-- The reference's operations on the arguments are the projection. -/
theorem reference_result (h : FVec Ideal S32768x2048 .bf16) (w : FVec Ideal S2048x7264 .f32) : reference h w = result h w := by
  funext y
  idx_vars y
  pointwise [reference, result, column, product]
  by_cases h1 : y1.val < 16
  · simp only [h1, dite_true]
  by_cases h2 : y1.val < 32
  · simp only [h1, h2, show y1.val - 16 < 16 by omega, dite_true, dite_false]
  by_cases h3 : y1.val < 64
  · simp only [h1, h2, h3, show ¬ y1.val - 16 < 16 by omega, show y1.val - 16 - 16 < 32 by omega, dite_true, dite_false, mul_zero, Finset.sum_const_zero]
  · simp only [h1, h2, h3, show ¬ y1.val - 16 < 16 by omega, show ¬ y1.val - 16 - 16 < 32 by omega, dite_false,
      show y1.val - 16 - 16 - 32 = y1.val - 64 by omega]
end Reference

/-- The kernel and the reference end with the same array. -/
theorem algebraic : Cert.algebraic_Kernel9Ideal_Reference9Ideal := by
  intro m g m' g' _ hargs
  refine ⟨fun c => result (argH m c) (argW m c), ?_, ?_⟩
  · exact (θ_run Cert.Kernel9Ideal.defs _ _).mono (fun r h c => ⟨(h c).1.trans (kernel_array m c), (h c).2⟩)
      (Cert.Kernel9Ideal.Value.run_blocks m g)
  · refine (θ_run Cert.Reference9Ideal.defs _ _).mono (fun r h c => ⟨(h c).1.trans ?_, (h c).2⟩) (Cert.Reference9Ideal.Value.run m' g')
    obtain ⟨e0, e1⟩ := hargs c
    rw [e0, e1]
    exact reference_result _ _

end Cert.Small
end
-- ==== Proof.Norm.lean ====
/-
The layer's first normalisation: every token's features divided by their root mean square and multiplied by the norm's
weights.  The kernel works on blocks of rows of all tokens; the reference keeps batch and position apart until the end.
-/
module

public import proofs.«01_k».proof.Defs
public import proofs.«01_k».proof.Proof.Rows
public import proofs.«01_k».proof.Proof.Gen.Kernel10Ideal.Value
public import proofs.«01_k».proof.Proof.Gen.Reference10Ideal.Run

@[expose] public section
set_option maxRecDepth 100000

noncomputable section
namespace Cert.Norm

open Cert.Dense Idealize.ShloMosaic Idealize.ShloMosaic.TcCoe Idealize.SL.Sem

/-- The number of features as the programs write it. -/
def width : EReal := Ideal.ofBits .f32 0x45000000#32
/-- The small term under the root as the programs write it. -/
def least : EReal := Ideal.ofBits .f32 0x358637BD#32

/-- Feature `k` of a row `s`, divided by the row's root mean square and multiplied by `g`. -/
def normed (s : Fin 2048 → EReal) (k : Fin 2048) (g : EReal) : EReal :=
  s k * Ideal.rsqrt (Ideal.div (∑ e : Fin 2048, s e * s e) width + least) * g

/-- The batch and the position of token `i`. -/
def batch (i : Fin 32768) : Fin 4 := ⟨i.val / 8192, by omega⟩
/-- The place of a row in its sequence. -/
def place (i : Fin 32768) : Fin 8192 := ⟨i.val % 8192, by omega⟩

/-- The normalised input from the layer's input and the norm's weights. -/
def result (x : FVec Ideal ⟨3, ![4, 8192, 2048]⟩ .f32) (g : FVec Ideal ⟨1, ![2048]⟩ .f32) : FVec Ideal ⟨2, ![32768, 2048]⟩ .bf16 :=
  fun y => normed (fun e => x (ix3 (batch (y 0)) (place (y 0)) e)) (y 1) (g (ix1 (y 1)))

section Kernel
open Cert.Kernel10Ideal Cert.Kernel10Ideal.Gen

/-- What a launch leaves in its output block. -/
theorem block_at (x0 : Vec Ideal S512x2048 .f32) (x1 : Vec Ideal S1x2048 .f32) (r : Fin 512) (k : Fin 2048) :
    out0_2 x0 x1 (ix2 r k) = normed (fun e => x0 (ix2 r e)) k (x1 (ix2 0 k)) := by
  have h : out0_2 x0 x1 = k0_pay1 x0 x1 := by
    unfold out0_2
    rw [View.ld_unit_lit (S := S512x2048) (Val := Elt Ideal) (e := .f32) _ _ (by decide), View.ld_unit_lit (S := S1x2048) (Val := Elt Ideal) (e := .f32) _ _ (by decide)]
    exact View.canon_cons_unit_lit (S := S512x2048) (Val := Elt Ideal) (e := .bf16) _ _ _ (by decide)
  refine (congrFun h (ix2 r k)).trans ?_
  pointwise [k0_pay1, normed, width, least]

/-- The block every window stages at grid point `t`. -/
theorem idx (t : Fin cfg0.N) : win0_0.index t = ![t.val, 0] ∧ win0_1.index t = ![0, 0] ∧ win0_2.index t = ![t.val, 0] := by
  revert t
  decide +kernel

variable (m : (ℓ : Loc nD τ sig) → Buf (Elt Ideal) ℓ) (c : Dev nD)

/-- The layer's input on device `c`. -/
def argX : FVec Ideal S4x8192x2048 .f32 := m ((c : Thread nD τ).loc main_arg0)
/-- The norm's weights. -/
def argG : FVec Ideal S2048 .f32 := m ((c : Thread nD τ).loc main_arg1)

/-- Row `r` of grid point `t`'s rows. -/
def rowOf (t : Fin cfg0.N) (r : Fin 512) : Fin 32768 := ⟨512 * t.val + r.val, by have := lt_of_lt_of_eq t.isLt N_0; omega⟩

/-- A launch loads the input of its own rows. -/
theorem x_at (t : Fin cfg0.N) (r : Fin 512) (k : Fin 2048) :
    iblk m c 0 t (ix2 r k) = argX m c (ix3 (batch (rowOf t r)) (place (rowOf t r)) k) := by
  obtain ⟨e0, e1, e2⟩ := idx t
  have he : (win0_0.blk t).view.emb (ix2 r k) = ix2 (rowOf t r) k := by blk_ext [e0, rowOf]
  have hv : V m c main_v0 (ix2 (rowOf t r) k) = argX m c (ix3 (batch (rowOf t r)) (place (rowOf t r)) k) := by
    entry_read
    pointwise [argX, batch, place]
  exact (congrArg (V m c main_v0) he).trans hv

/-- A launch loads all the norm's weights. -/
theorem g_at (t : Fin cfg0.N) (k : Fin 2048) : iblk m c 1 t (ix2 0 k) = argG m c (ix1 k) := by
  obtain ⟨e0, e1, e2⟩ := idx t
  have he : (win0_1.blk t).view.emb (ix2 0 k) = ix2 0 k := by blk_ext [e1]
  have hv : V m c main_v1 (ix2 0 k) = argG m c (ix1 k) := by
    entry_read
    pointwise [argG]
  exact (congrArg (V m c main_v1) he).trans hv

/-- The final array is the normalised input. -/
theorem kernel_array : (dats m 0 c).arrAt 2 cfg0.N = result (argX m c) (argG m c) := by
  refine (dats m 0 c).arrAt_eq_of_covers 2 _ (by decide +kernel) fun t hfl y => ?_
  obtain ⟨e0, e1, e2⟩ := idx t
  blk_simp
  rw [after0_2]
  have hy : y = ix2 (y 0) (y 1) := by
    funext a
    match a with
    | 0 => rfl
    | 1 => rfl
  have he : (win0_2.blk t).view.emb y = ix2 (rowOf t (y 0)) (y 1) :=
    (congrArg _ hy).trans (by blk_ext [e2, rowOf])
  refine (congrArg (out0_2 _ _) hy).trans ((block_at _ _ (y 0) (y 1)).trans ?_)
  refine Eq.trans ?_ (congrArg (result (argX m c) (argG m c)) he).symm
  exact congrArg₂ (fun s g => normed s (y 1) g) (funext fun e => x_at m c t (y 0) e) (g_at m c t (y 1))
end Kernel

section Reference
open Cert.Reference10Ideal Cert.Reference10Ideal.Gen

/-- The reference's operations on the arguments. -/
def reference (x : FVec Ideal S4x8192x2048 .f32) (g : FVec Ideal S2048 .f32) : FVec Ideal S32768x2048 .bf16 :=
  truncf .bf16 (shapeCast _ (mulf (mulf x (broadcastInDim S4x8192x2048 ![0, 1, 2] bcast_S4x8192x1_S4x8192x2048_0_1_2
    (Host.rsqrt (addf (Host.divf (broadcastInDim S4x8192x1 ![0, 1] bcast_S4x8192_S4x8192x1_0_1
      (Host.reduceAdd (mulf x x) (constant S_ .f32 0x00000000#32) reducesTo_S4x8192x2048_S4x8192_d2 h_S_))
      (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g)))
    shapeCasts_S4x8192x2048_S32768x2048) bitsLt_bf16_f32

/-- The reference's operations on the arguments are the normalised input. -/
theorem reference_result (x : FVec Ideal S4x8192x2048 .f32) (g : FVec Ideal S2048 .f32) : reference x g = result x g := by
  funext y
  idx_vars y
  pointwise [reference, result, normed, batch, place, width, least]
end Reference

/-- The kernel and the reference end with the same array. -/
theorem algebraic : Cert.algebraic_Kernel10Ideal_Reference10Ideal := by
  intro m g m' g' _ hargs
  refine ⟨fun c => result (argX m c) (argG m c), ?_, ?_⟩
  · exact (θ_run Cert.Kernel10Ideal.defs _ _).mono (fun r h c => ⟨(h c).1.trans (kernel_array m c), (h c).2⟩)
      (Cert.Kernel10Ideal.Value.run_blocks m g)
  · refine (θ_run Cert.Reference10Ideal.defs _ _).mono (fun r h c => ⟨(h c).1.trans ?_, (h c).2⟩) (Cert.Reference10Ideal.Value.run m' g')
    obtain ⟨e0, e1⟩ := hargs c
    rw [e0, e1]
    exact reference_result _ _

end Cert.Norm
end
-- ==== Proof.lean ====
/-
The certificate's claims: the kernel and its ideal reading run and leave their arguments as they were, so does the
reference, and over the extended reals the kernel and the reference end with the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.KernelArray
public import proofs.«01_k».proof.Proof.RefValue
public import proofs.«01_k».proof.Proof.Precondition
public import proofs.«01_k».proof.Proof.Projection
public import proofs.«01_k».proof.Proof.Values
public import proofs.«01_k».proof.Proof.Heads
public import proofs.«01_k».proof.Proof.Gates
public import proofs.«01_k».proof.Proof.Mix
public import proofs.«01_k».proof.Proof.Output
public import proofs.«01_k».proof.Proof.Embedding
public import proofs.«01_k».proof.Proof.Small
public import proofs.«01_k».proof.Proof.Norm
public import Idealize.ShloMosaic.Adequacy
public import Idealize.ShloMosaic.Init

@[expose] public section

noncomputable section

namespace Cert.Proof

open Idealize.ShloMosaic Idealize.SL.Sem

instance : Cert.Pre_finite_gates.Facts := Cert.Gla.preFacts

/-- The kernel runs, leaves its arguments as they were and every semaphore at zero. -/
theorem frame_kernel : Cert.quiescent_Kernel := fun m g _ => Cert.Kernel.Gen.frame m g

/-- So does its ideal reading. -/
theorem frame_ideal : Cert.quiescent_KernelIdeal := fun m g _ => Cert.KernelIdeal.Gen.frame m g

/-- So does the reference, which has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel and the reference end with the same array, the model's result, where the gates are real numbers. -/
theorem algebraic : Cert.algebraic_KernelIdeal_ReferenceIdeal_pre_finite_gates := by
  intro m g m' g' hpre hargs
  have hf (c : Dev Cert.KernelIdeal.nD) : Cert.Gla.FiniteGates (Cert.Gla.argZs m c) (Cert.Gla.argW m c) (Cert.Gla.argB m c) :=
    Cert.Gla.finiteGates_of _ _ _ _ _ (hpre c)
  refine ⟨fun c => Cert.Gla.result (Cert.Gla.argZ m c) (Cert.Gla.argZs m c) (Cert.Gla.argW m c) (Cert.Gla.argB m c) (Cert.Gla.argG m c), ?_, ?_⟩
  · exact (θ_run Cert.KernelIdeal.defs _ _).mono (fun r h c => ⟨(h c).1.trans (Cert.Gla.kernel_array m c (hf c)), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    obtain ⟨e0, e1, e2, e3, e4⟩ := hargs c
    have e0 : Cert.Gla.refZ m' c = Cert.Gla.argZ m c := e0
    have e1 : Cert.Gla.refZs m' c = Cert.Gla.argZs m c := e1
    have e2 : Cert.Gla.refW m' c = Cert.Gla.argW m c := e2
    have e3 : Cert.Gla.refB m' c = Cert.Gla.argB m c := e3
    have e4 : Cert.Gla.refG m' c = Cert.Gla.argG m c := e4
    have hf := hf c
    rw [← e1, ← e2, ← e3] at hf
    refine (Cert.Gla.reference_array m' c hf).trans ?_
    rw [e0, e1, e2, e3, e4]

/-! The references of the dense calls run, leave their arguments as they were, and have no semaphores. -/

/-- The reference of the gated-linear-attention projection. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The reference of the value and index projection. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The reference of the query and key projection. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The reference of the branch gates. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The reference of the gated sum. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The reference of the output projection. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The reference of the embedding. -/
theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The reference of the small projection. -/
theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The reference of the first normalisation. -/
theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- Every claim: the runs of every program, then for every call the equal results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Gla.preFacts, frame_kernel, frame_ideal, fun m g _ => frame_ideal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    trivial, algebraic,
    trivial, Cert.Projection.algebraic,
    trivial, Cert.Values.algebraic,
    trivial, Cert.Heads.algebraic,
    trivial, Cert.Gates.algebraic,
    trivial, Cert.Mix.algebraic,
    trivial, Cert.Output.algebraic,
    trivial, Cert.Embedding.algebraic,
    trivial, Cert.Small.algebraic,
    trivial, Cert.Norm.algebraic⟩

end Cert.Proof

end
